-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluReferenceIdeal (m : (ℓ : Loc Cert.GeluReferenceIdeal.nD Cert.GeluReferenceIdeal.τ Cert.GeluReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1))
      ∧ r.2.sem = fun _ => 0)

def quiescent_GeluReferenceIdeal [hGeluReferenceIdeal : Cert.GeluReferenceIdeal.Facts] : Prop :=
  ∀ (m : (ℓ : Loc Cert.GeluReferenceIdeal.nD Cert.GeluReferenceIdeal.τ Cert.GeluReferenceIdeal.sig) → Buf (Elt Ideal) ℓ) (g : Dev Cert.GeluReferenceIdeal.nD → PrngReg), Pre_GeluReferenceIdeal m →
    θ_run (Cert.GeluReferenceIdeal.defs (F := Ideal)) (onTc (τ := Cert.GeluReferenceIdeal.τ) (Cert.GeluReferenceIdeal.main (F := Ideal))) ⟨m, fun _ => 0, g⟩ (fun r => (∀ c : Dev Cert.GeluReferenceIdeal.nD,
      r.2.mem ((c.tc : Thread Cert.GeluReferenceIdeal.nD Cert.GeluReferenceIdeal.τ).loc Cert.GeluReferenceIdeal.main_arg0) = m ((c.tc : Thread Cert.GeluReferenceIdeal.nD Cert.GeluReferenceIdeal.τ).loc Cert.GeluReferenceIdeal.main_arg0)
      ∧ r.2.mem ((c.tc : Thread Cert.GeluReferenceIdeal.nD Cert.GeluReferenceIdeal.τ).loc Cert.GeluReferenceIdeal.main_arg1) = m ((c.tc : Thread Cert.GeluReferenceIdeal.nD Cert.GeluReferenceIdeal.τ).loc Cert.GeluReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v35) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Gelu_GeluIdeal : Prop :=
  True

def algebraic_GeluIdeal_GeluReferenceIdeal [hGeluIdeal : Cert.GeluIdeal.Facts] [hGeluReferenceIdeal : Cert.GeluReferenceIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluReferenceIdeal.nD Cert.GeluReferenceIdeal.τ Cert.GeluReferenceIdeal.sig) → Buf (Elt Ideal) ℓ) (g' : Dev Cert.GeluReferenceIdeal.nD → PrngReg), Pre_GeluIdeal m →
    (∀ c : Dev Cert.GeluIdeal.nD,
      m' ((c.tc : Thread Cert.GeluReferenceIdeal.nD Cert.GeluReferenceIdeal.τ).loc Cert.GeluReferenceIdeal.main_arg0) = m ((c.tc : Thread Cert.GeluIdeal.nD Cert.GeluIdeal.τ).loc Cert.GeluIdeal.main_arg0)
      ∧ m' ((c.tc : Thread Cert.GeluReferenceIdeal.nD Cert.GeluReferenceIdeal.τ).loc Cert.GeluReferenceIdeal.main_arg1) = m ((c.tc : Thread Cert.GeluIdeal.nD Cert.GeluIdeal.τ).loc Cert.GeluIdeal.main_arg1)) →
    ∃ (v0 : (c : Dev Cert.GeluIdeal.nD) → Buf (Elt Ideal) ((c.tc : Thread Cert.GeluIdeal.nD Cert.GeluIdeal.τ).loc Cert.GeluIdeal.main_v2)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v2) = v0 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1))
      ∧ θ_run (Cert.GeluReferenceIdeal.defs (F := Ideal)) (onTc (τ := Cert.GeluReferenceIdeal.τ) (Cert.GeluReferenceIdeal.main (F := Ideal))) ⟨m', fun _ => 0, g'⟩ (fun r => ∀ c : Dev Cert.GeluReferenceIdeal.nD,
          r.2.mem ((c.tc : Thread Cert.GeluReferenceIdeal.nD Cert.GeluReferenceIdeal.τ).loc Cert.GeluReferenceIdeal.main_v10) = v0 c
          ∧ r.2.mem ((c.tc : Thread Cert.GeluReferenceIdeal.nD Cert.GeluReferenceIdeal.τ).loc Cert.GeluReferenceIdeal.main_arg0) = m' ((c.tc : Thread Cert.GeluReferenceIdeal.nD Cert.GeluReferenceIdeal.τ).loc Cert.GeluReferenceIdeal.main_arg0)
          ∧ r.2.mem ((c.tc : Thread Cert.GeluReferenceIdeal.nD Cert.GeluReferenceIdeal.τ).loc Cert.GeluReferenceIdeal.main_arg1) = m' ((c.tc : Thread Cert.GeluReferenceIdeal.nD Cert.GeluReferenceIdeal.τ).loc Cert.GeluReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v17) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hGelu : Cert.Gelu.Facts) (hGeluIdeal : Cert.GeluIdeal.Facts) (hGeluReferenceIdeal : Cert.GeluReferenceIdeal.Facts) (hMemKv : Cert.MemKv.Facts) (hMemKvIdeal : Cert.MemKvIdeal.Facts) (hMemKvReferenceIdeal : Cert.MemKvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Gelu (hGelu := hGelu)
    ∧ quiescent_GeluIdeal (hGeluIdeal := hGeluIdeal)
    ∧ quiescent_GeluReferenceIdeal (hGeluReferenceIdeal := hGeluReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Gelu_GeluIdeal
    ∧ algebraic_GeluIdeal_GeluReferenceIdeal (hGeluIdeal := hGeluIdeal) (hGeluReferenceIdeal := hGeluReferenceIdeal)
    ∧ preserves_MemKv_MemKvIdeal
    ∧ algebraic_MemKvIdeal_MemKvReferenceIdeal (hMemKvIdeal := hMemKvIdeal) (hMemKvReferenceIdeal := hMemKvReferenceIdeal)
-- ==== Kernel.lean ====
abbrev S2x4096x9216 : Shape := ⟨3, ![2, 4096, 9216]⟩
abbrev S32x16x16x9216 : Shape := ⟨4, ![32, 16, 16, 9216]⟩
abbrev S8192x9216 : Shape := ⟨2, ![8192, 9216]⟩
abbrev S2x16x1x16x16x9216 : Shape := ⟨6, ![2, 16, 1, 16, 16, 9216]⟩
abbrev S2x16x1x16x16x1024 : Shape := ⟨6, ![2, 16, 1, 16, 16, 1024]⟩
abbrev S2x16x1x16x16x128 : Shape := ⟨6, ![2, 16, 1, 16, 16, 128]⟩
abbrev S1x16x1x1x16x1024 : Shape := ⟨6, ![1, 16, 1, 1, 16, 1024]⟩
abbrev S1x8x1x1x16x1024 : Shape := ⟨6, ![1, 8, 1, 1, 16, 1024]⟩
abbrev S1x16x1x1x16x128 : Shape := ⟨6, ![1, 16, 1, 1, 16, 128]⟩
abbrev S8x256x128 : Shape := ⟨3, ![8, 256, 128]⟩
abbrev S8x384x128 : Shape := ⟨3, ![8, 384, 128]⟩
abbrev S256x128 : Shape := ⟨2, ![256, 128]⟩
abbrev S2x1x128x256 : Shape := ⟨4, ![2, 1, 128, 256]⟩
abbrev S128x256 : Shape := ⟨2, ![128, 256]⟩
abbrev S1x1x128x256 : Shape := ⟨4, ![1, 1, 128, 256]⟩
abbrev S16x1x16x128 : Shape := ⟨4, ![16, 1, 16, 128]⟩
abbrev S1x256x128 : Shape := ⟨3, ![1, 256, 128]⟩
abbrev S1x8x1x1x16x128 : Shape := ⟨6, ![1, 8, 1, 1, 16, 128]⟩
abbrev S8x1x16x128 : Shape := ⟨4, ![8, 1, 16, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 8
  | .vmem => 20
  | .smem => 0
  | _ => 0

abbrev bufTy : (tb : Table) → Fin (tcTables nBuf tb) → BufTy
  | .hbm, ⟨0, _⟩ => ⟨S2x4096x9216, .f32⟩
  | .hbm, ⟨1, _⟩ => ⟨S2x4096x9216, .bf16⟩
  | .hbm, ⟨2, _⟩ => ⟨S32x16x16x9216, .bf16⟩
  | .hbm, ⟨3, _⟩ => ⟨S32x16x16x9216, .bf16⟩
  | .hbm, ⟨4, _⟩ => ⟨S8192x9216, .bf16⟩
  | .hbm, ⟨5, _⟩ => ⟨S2x16x1x16x16x9216, .bf16⟩
  | .hbm, ⟨6, _⟩ => ⟨S2x16x1x16x16x1024, .bf16⟩
  | .hbm, ⟨7, _⟩ => ⟨S2x16x1x16x16x128, .f32⟩
  | .local _ .vmem, ⟨0, _⟩ => ⟨S1x16x1x1x16x1024, .bf16⟩
  | .local _ .vmem, ⟨1, _⟩ => ⟨S1x16x1x1x16x1024, .bf16⟩
  | .local _ .vmem, ⟨2, _⟩ => ⟨S1x16x1x1x16x1024, .bf16⟩
  | .local _ .vmem, ⟨3, _⟩ => ⟨S1x16x1x1x16x1024, .bf16⟩
  | .local _ .vmem, ⟨4, _⟩ => ⟨S1x8x1x1x16x1024, .bf16⟩
  | .local _ .vmem, ⟨5, _⟩ => ⟨S1x8x1x1x16x1024, .bf16⟩
  | .local _ .vmem, ⟨6, _⟩ => ⟨S1x16x1x1x16x1024, .bf16⟩
  | .local _ .vmem, ⟨7, _⟩ => ⟨S1x16x1x1x16x1024, .bf16⟩
  | .local _ .vmem, ⟨8, _⟩ => ⟨S1x8x1x1x16x1024, .bf16⟩
  | .local _ .vmem, ⟨9, _⟩ => ⟨S1x8x1x1x16x1024, .bf16⟩
  | .local _ .vmem, ⟨10, _⟩ => ⟨S1x16x1x1x16x1024, .bf16⟩
  | .local _ .vmem, ⟨11, _⟩ => ⟨S1x16x1x1x16x1024, .bf16⟩
  | .local _ .vmem, ⟨12, _⟩ => ⟨S1x16x1x1x16x128, .f32⟩
  | .local _ .vmem, ⟨13, _⟩ => ⟨S1x16x1x1x16x128, .f32⟩
  | .local _ .vmem, ⟨14, _⟩ => ⟨S8x256x128, .bf16⟩
  | .local _ .vmem, ⟨15, _⟩ => ⟨S8x384x128, .bf16⟩
  | .local _ .vmem, ⟨16, _⟩ => ⟨S8x384x128, .bf16⟩
  | .local _ .vmem, ⟨17, _⟩ => ⟨S8x256x128, .bf16⟩
  | .local _ .vmem, ⟨18, _⟩ => ⟨S256x128, .f32⟩
  | .local _ .vmem, ⟨19, _⟩ => ⟨S2x1x128x256, .f32⟩
  | _, _ => ⟨S2x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5_0 : Ref sig .tc := ⟨.hbm, 6, rfl⟩
abbrev main_v5_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def k0_off1 (i : grid0.Coords) : Fin 4 → Nat :=
  let arg2 : BitVec 32 := BitVec.ofNat 32 (i 2).val
  let c0_i32_348 : BitVec 32 := 0#32
  let v247 : BitVec 1 := Scalar.cmpi .sgt arg2 c0_i32_348
  let c1_i32 : BitVec 32 := 1#32
  let c0_i32_349 : BitVec 32 := 0#32
  let v248 : BitVec 32 := Scalar.select v247 c1_i32 c0_i32_349
  let v250 : Index := Scalar.indexCast v248
  let c0_350 : Index := 0#32
  let c0_351 : Index := 0#32
  let c0_352 : Index := 0#32
  ![v250.toNat, 0, 0, 0]
def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c6_i32 : BitVec 32 := 6#32
  let c0_i32_1 : BitVec 32 := 0#32
  ![arg0.toNat, arg2.toNat, c0_i32.toNat, arg1.toNat, c0_i32_0.toNat, c6_i32.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c7_i32 : BitVec 32 := 7#32
  let c0_i32_1 : BitVec 32 := 0#32
  ![arg0.toNat, arg2.toNat, c0_i32.toNat, arg1.toNat, c0_i32_0.toNat, c7_i32.toNat]

def cc0_transform_2 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c7_i32 : BitVec 32 := 7#32
  let c0_i32_2 : BitVec 32 := 0#32
  ![arg0.toNat, v2.toNat, c0_i32_0.toNat, arg1.toNat, c0_i32_1.toNat, c7_i32.toNat]

def cc0_transform_3 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c8_i32 : BitVec 32 := 8#32
  let c0_i32_1 : BitVec 32 := 0#32
  ![arg0.toNat, arg2.toNat, c0_i32.toNat, arg1.toNat, c0_i32_0.toNat, c8_i32.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c8_i32 : BitVec 32 := 8#32
  let c0_i32_2 : BitVec 32 := 0#32
  ![arg0.toNat, v2.toNat, c0_i32_0.toNat, arg1.toNat, c0_i32_1.toNat, c8_i32.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, c0_i32.toNat, arg1.toNat, c0_i32_0.toNat, c0_i32_1.toNat]

def cc0_transform_6 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, c0_i32.toNat, arg1.toNat, c0_i32_0.toNat, c0_i32_1.toNat]

abbrev stage0_0 : Fin 2 → Memref sig .tc .vmem S1x16x1x1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1x1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1x1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x1x1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x1x1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x1x1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x1x1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x4096x9216 : Shape := ⟨3, ![2, 4096, 9216]⟩
abbrev S2x4096x3x3x8x128 : Shape := ⟨6, ![2, 4096, 3, 3, 8, 128]⟩
abbrev S2x4096x1x1x8x128 : Shape := ⟨6, ![2, 4096, 1, 1, 8, 128]⟩
abbrev S2x4096x8x128 : Shape := ⟨4, ![2, 4096, 8, 128]⟩
abbrev S2x256x16x8x128 : Shape := ⟨5, ![2, 256, 16, 8, 128]⟩
abbrev S2x16x256x8x128 : Shape := ⟨5, ![2, 16, 256, 8, 128]⟩
abbrev S_ : Shape := ⟨0, ![]⟩
abbrev S2x16x2x128x8x128 : Shape := ⟨6, ![2, 16, 2, 128, 8, 128]⟩
abbrev S2x16x1x128x8x128 : Shape := ⟨6, ![2, 16, 1, 128, 8, 128]⟩
abbrev S2x16x2x256x8x128 : Shape := ⟨6, ![2, 16, 2, 256, 8, 128]⟩
abbrev S2x16x2x8x128x256 : Shape := ⟨6, ![2, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x1x2x1x128x256 : Shape := ⟨6, ![1, 1, 2, 1, 128, 256]⟩
abbrev S2x16x2x8x128 : Shape := ⟨5, ![2, 16, 2, 8, 128]⟩
abbrev S2x16x2x8x128x1 : Shape := ⟨6, ![2, 16, 2, 8, 128, 1]⟩
abbrev S2x16x2x8x128x128 : Shape := ⟨6, ![2, 16, 2, 8, 128, 128]⟩
abbrev S2x16x2x128x8x1 : Shape := ⟨6, ![2, 16, 2, 128, 8, 1]⟩
abbrev S2x16x2x128x8 : Shape := ⟨5, ![2, 16, 2, 128, 8]⟩
abbrev S2x16x256x8 : Shape := ⟨4, ![2, 16, 256, 8]⟩
abbrev S2x256x16x8 : Shape := ⟨4, ![2, 256, 16, 8]⟩
abbrev S2x4096x8 : Shape := ⟨3, ![2, 4096, 8]⟩
abbrev S2x4096x1024 : Shape := ⟨3, ![2, 4096, 1024]⟩
abbrev S2x16x16x1x16x1024 : Shape := ⟨6, ![2, 16, 16, 1, 16, 1024]⟩
abbrev S2x16x1x16x16x1024 : Shape := ⟨6, ![2, 16, 1, 16, 16, 1024]⟩
abbrev S2x4096x128 : Shape := ⟨3, ![2, 4096, 128]⟩
abbrev S2x16x16x1x16x128 : Shape := ⟨6, ![2, 16, 16, 1, 16, 128]⟩
abbrev S2x16x1x16x16x128 : Shape := ⟨6, ![2, 16, 1, 16, 16, 128]⟩

abbrev nBuf : Space → Nat
  | .hbm => 112
  | .vmem => 0
  | .smem => 0
  | _ => 0

abbrev bufTy : (tb : Table) → Fin (tcTables nBuf tb) → BufTy
  | .hbm, ⟨0, _⟩ => ⟨S2x4096x9216, .f32⟩
  | .hbm, ⟨1, _⟩ => ⟨S2x4096x3x3x8x128, .f32⟩
  | .hbm, ⟨2, _⟩ => ⟨S2x4096x1x1x8x128, .f32⟩
  | .hbm, ⟨3, _⟩ => ⟨S2x4096x8x128, .f32⟩
  | .hbm, ⟨4, _⟩ => ⟨S2x4096x1x1x8x128, .f32⟩
  | .hbm, ⟨5, _⟩ => ⟨S2x4096x8x128, .f32⟩
  | .hbm, ⟨6, _⟩ => ⟨S2x4096x1x1x8x128, .f32⟩
  | .hbm, ⟨7, _⟩ => ⟨S2x4096x8x128, .f32⟩
  | .hbm, ⟨8, _⟩ => ⟨S2x256x16x8x128, .f32⟩
  | .hbm, ⟨9, _⟩ => ⟨S2x16x256x8x128, .f32⟩
  | .hbm, ⟨10, _⟩ => ⟨S_, .i32⟩
  | .hbm, ⟨11, _⟩ => ⟨S_, .f32⟩
  | .hbm, ⟨12, _⟩ => ⟨S2x16x256x8x128, .f32⟩
  | .hbm, ⟨13, _⟩ => ⟨S2x16x2x128x8x128, .f32⟩
  | .hbm, ⟨14, _⟩ => ⟨S2x256x16x8x128, .f32⟩
  | .hbm, ⟨15, _⟩ => ⟨S2x16x256x8x128, .f32⟩
  | .hbm, ⟨16, _⟩ => ⟨S_, .i32⟩
  | .hbm, ⟨17, _⟩ => ⟨S_, .f32⟩
  | .hbm, ⟨18, _⟩ => ⟨S2x16x256x8x128, .f32⟩
  | .hbm, ⟨19, _⟩ => ⟨S2x16x2x128x8x128, .f32⟩
  | .hbm, ⟨20, _⟩ => ⟨S2x256x16x8x128, .f32⟩
  | .hbm, ⟨21, _⟩ => ⟨S2x16x256x8x128, .f32⟩
  | .hbm, ⟨22, _⟩ => ⟨S_, .i32⟩
  | .hbm, ⟨23, _⟩ => ⟨S_, .f32⟩
  | .hbm, ⟨24, _⟩ => ⟨S2x16x256x8x128, .f32⟩
  | .hbm, ⟨25, _⟩ => ⟨S2x16x2x128x8x128, .f32⟩
  | .hbm, ⟨26, _⟩ => ⟨S2x16x1x128x8x128, .f32⟩
  | .hbm, ⟨27, _⟩ => ⟨S_, .i32⟩
  | .hbm, ⟨28, _⟩ => ⟨S_, .f32⟩
  | .hbm, ⟨29, _⟩ => ⟨S2x16x2x128x8x128, .f32⟩
  | .hbm, ⟨30, _⟩ => ⟨S2x16x2x256x8x128, .f32⟩
  | .hbm, ⟨31, _⟩ => ⟨S2x16x1x128x8x128, .f32⟩
  | .hbm, ⟨32, _⟩ => ⟨S_, .i32⟩
  | .hbm, ⟨33, _⟩ => ⟨S_, .f32⟩
  | .hbm, ⟨34, _⟩ => ⟨S2x16x2x128x8x128, .f32⟩
  | .hbm, ⟨35, _⟩ => ⟨S2x16x2x256x8x128, .f32⟩
  | .hbm, ⟨36, _⟩ => ⟨S2x16x2x8x128x256, .f32⟩
  | .hbm, ⟨37, _⟩ => ⟨S_, .f32⟩
  | .hbm, ⟨38, _⟩ => ⟨S2x16x2x8x128x256, .f32⟩
  | .hbm, ⟨39, _⟩ => ⟨S2x16x2x8x128x256, .f32⟩
  | .hbm, ⟨40, _⟩ => ⟨S128, .i32⟩
  | .hbm, ⟨41, _⟩ => ⟨S128x1, .i32⟩
  | .hbm, ⟨42, _⟩ => ⟨S256, .i32⟩
  | .hbm, ⟨43, _⟩ => ⟨S1x256, .i32⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x256, .i32⟩
  | .hbm, ⟨48, _⟩ => ⟨S128x256, .i32⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S2, .i32⟩
  | .hbm, ⟨58, _⟩ => ⟨S_, .i32⟩
  | .hbm, ⟨59, _⟩ => ⟨S2, .i32⟩
  | .hbm, ⟨60, _⟩ => ⟨S2, .i1⟩
  | .hbm, ⟨61, _⟩ => ⟨S2x1x1, .i1⟩
  | .hbm, ⟨62, _⟩ => ⟨S_, .i32⟩
  | .hbm, ⟨63, _⟩ => ⟨S1x256, .i32⟩
  | .hbm, ⟨64, _⟩ => ⟨S1x256, .i1⟩
  | .hbm, ⟨65, _⟩ => ⟨S1x1x256, .i1⟩
  | .hbm, ⟨66, _⟩ => ⟨S2x1x256, .i1⟩
  | .hbm, ⟨67, _⟩ => ⟨S2x1x256, .i1⟩
  | .hbm, ⟨68, _⟩ => ⟨S2x1x256, .i1⟩
  | .hbm, ⟨69, _⟩ => ⟨S1x128x256, .i1⟩
  | .hbm, ⟨70, _⟩ => ⟨S2x128x256, .i1⟩
  | .hbm, ⟨71, _⟩ => ⟨S2x128x256, .i1⟩
  | .hbm, ⟨72, _⟩ => ⟨S2x128x256, .i1⟩
  | .hbm, ⟨73, _⟩ => ⟨S1x1x2x1x128x256, .i1⟩
  | .hbm, ⟨74, _⟩ => ⟨S_, .f32⟩
  | .hbm, ⟨75, _⟩ => ⟨S_, .f32⟩
  | .hbm, ⟨76, _⟩ => ⟨S2x16x2x8x128x256, .i1⟩
  | .hbm, ⟨77, _⟩ => ⟨S2x16x2x8x128x256, .f32⟩
  | .hbm, ⟨78, _⟩ => ⟨S2x16x2x8x128x256, .f32⟩
  | .hbm, ⟨79, _⟩ => ⟨S_, .f32⟩
  | .hbm, ⟨80, _⟩ => ⟨S2x16x2x8x128, .f32⟩
  | .hbm, ⟨81, _⟩ => ⟨S2x16x2x8x128x1, .f32⟩
  | .hbm, ⟨82, _⟩ => ⟨S2x16x2x8x128x256, .f32⟩
  | .hbm, ⟨83, _⟩ => ⟨S2x16x2x8x128x256, .f32⟩
  | .hbm, ⟨84, _⟩ => ⟨S2x16x2x8x128x256, .f32⟩
  | .hbm, ⟨85, _⟩ => ⟨S_, .f32⟩
  | .hbm, ⟨86, _⟩ => ⟨S2x16x2x8x128, .f32⟩
  | .hbm, ⟨87, _⟩ => ⟨S2x16x2x8x128x1, .f32⟩
  | .hbm, ⟨88, _⟩ => ⟨S2x16x2x8x128x128, .f32⟩
  | .hbm, ⟨89, _⟩ => ⟨S2x16x2x128x8x128, .f32⟩
  | .hbm, ⟨90, _⟩ => ⟨S2x16x2x128x8x1, .f32⟩
  | .hbm, ⟨91, _⟩ => ⟨S2x16x2x128x8x128, .f32⟩
  | .hbm, ⟨92, _⟩ => ⟨S2x16x2x128x8x128, .f32⟩
  | .hbm, ⟨93, _⟩ => ⟨S2x16x2x8x128x1, .f32⟩
  | .hbm, ⟨94, _⟩ => ⟨S2x16x2x8x128x1, .f32⟩
  | .hbm, ⟨95, _⟩ => ⟨S2x16x2x8x128, .f32⟩
  | .hbm, ⟨96, _⟩ => ⟨S2x16x2x128x8, .f32⟩
  | .hbm, ⟨97, _⟩ => ⟨S2x16x256x8x128, .f32⟩
  | .hbm, ⟨98, _⟩ => ⟨S2x256x16x8x128, .f32⟩
  | .hbm, ⟨99, _⟩ => ⟨S2x4096x8x128, .f32⟩
  | .hbm, ⟨100, _⟩ => ⟨S2x16x256x8, .f32⟩
  | .hbm, ⟨101, _⟩ => ⟨S2x256x16x8, .f32⟩
  | .hbm, ⟨102, _⟩ => ⟨S2x4096x8, .f32⟩
  | .hbm, ⟨103, _⟩ => ⟨S2x4096x1024, .f32⟩
  | .hbm, ⟨104, _⟩ => ⟨S2x4096x1024, .bf16⟩
  | .hbm, ⟨105, _⟩ => ⟨S2x16x16x1x16x1024, .bf16⟩
  | .hbm, ⟨106, _⟩ => ⟨S2x16x1x16x16x1024, .bf16⟩
  | .hbm, ⟨107, _⟩ => ⟨S_, .i32⟩
  | .hbm, ⟨108, _⟩ => ⟨S_, .f32⟩
  | .hbm, ⟨109, _⟩ => ⟨S2x4096x128, .f32⟩
  | .hbm, ⟨110, _⟩ => ⟨S2x16x16x1x16x128, .f32⟩
  | .hbm, ⟨111, _⟩ => ⟨S2x16x1x16x16x128, .f32⟩
  | _, _ => ⟨S2x4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_call1_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_call2_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_call3_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_call4_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_12 : Ref sig .tc := ⟨.hbm, 107, rfl⟩
abbrev main_call6_v0 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Ffn.lean ====
abbrev S2x4096x2048 : Shape := ⟨3, ![2, 4096, 2048]⟩
abbrev S2048x8192 : Shape := ⟨2, ![2048, 8192]⟩
abbrev S8192x2048 : Shape := ⟨2, ![8192, 2048]⟩
abbrev S4x2048 : Shape := ⟨2, ![4, 2048]⟩
abbrev S4x1x2048 : Shape := ⟨3, ![4, 1, 2048]⟩
abbrev S128x2048 : Shape := ⟨2, ![128, 2048]⟩
abbrev S1024x2048 : Shape := ⟨2, ![1024, 2048]⟩
abbrev S2048x1024 : Shape := ⟨2, ![2048, 1024]⟩
abbrev S1x1x2048 : Shape := ⟨3, ![1, 1, 2048]⟩
abbrev S16x128x128 : Shape := ⟨3, ![16, 128, 128]⟩
abbrev S1x2048 : Shape := ⟨2, ![1, 2048]⟩
abbrev S128 : Shape := ⟨1, ![128]⟩
abbrev S128x1 : Shape := ⟨2, ![128, 1]⟩
abbrev S1x128 : Shape := ⟨2, ![1, 128]⟩
abbrev S1024x1024 : Shape := ⟨2, ![1024, 1024]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2048x8192, .f32⟩
  | .hbm, ⟨2, _⟩ => ⟨S8192x2048, .f32⟩
  | .hbm, ⟨3, _⟩ => ⟨S4x2048, .f32⟩
  | .hbm, ⟨4, _⟩ => ⟨S4x2048, .f32⟩
  | .hbm, ⟨5, _⟩ => ⟨S8192x2048, .f32⟩
  | .hbm, ⟨6, _⟩ => ⟨S8192x2048, .bf16⟩
  | .hbm, ⟨7, _⟩ => ⟨S2048x8192, .bf16⟩
  | .hbm, ⟨8, _⟩ => ⟨S8192x2048, .bf16⟩
  | .hbm, ⟨9, _⟩ => ⟨S4x1x2048, .f32⟩
  | .hbm, ⟨10, _⟩ => ⟨S4x1x2048, .f32⟩
  | .hbm, ⟨11, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S128x2048, .f32⟩
  | .local _ .vmem, ⟨11, _⟩ => ⟨S128x2048, .f32⟩
  | .local _ .vmem, ⟨12, _⟩ => ⟨S1024x2048, .f32⟩
  | .local _ .vmem, ⟨13, _⟩ => ⟨S1024x2048, .f32⟩
  | .local _ .vmem, ⟨14, _⟩ => ⟨S16x128x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![9, 8], ![false, false]⟩

def k0_cond2 (i : grid0.Coords) : BitVec 1 :=
  let arg0 : BitVec 32 := BitVec.ofNat 32 (i 0).val
  let c8_i32 : BitVec 32 := 8#32
  let v5 : BitVec 1 := Scalar.cmpi .slt arg0 c8_i32
  let c2_i32 : BitVec 32 := 2#32
  let v6 : BitVec 32 := Scalar.remsi arg0 c2_i32
  let c0_i32_2 : BitVec 32 := 0#32
  let v7 : BitVec 1 := Scalar.cmpi .eq v6 c0_i32_2
  let v8 : BitVec 1 := Scalar.andi v5 v7
  let v9 : BitVec 32 := Scalar.extui v8
  let c0_i32_3 : BitVec 32 := 0#32
  let v10 : BitVec 1 := Scalar.cmpi .ne v9 c0_i32_3
  v10

def k0_mult1 (i : grid0.Coords) : BitVec 32 :=
  let arg1 : BitVec 32 := BitVec.ofNat 32 (i 1).val
  let c128_i32 : BitVec 32 := 128#32
  let v29 : BitVec 32 := Scalar.muli arg1 c128_i32
  v29
def k0_off1 (i : grid0.Coords) : Fin 2 → Nat :=
  let arg1 : BitVec 32 := BitVec.ofNat 32 (i 1).val
  let c128_i32 : BitVec 32 := 128#32
  let v29 : BitVec 32 := Scalar.muli arg1 c128_i32
  let v30 : BitVec 32 := v29
  let v35 : Index := Scalar.indexCast v30
  let c0_16 : Index := 0#32
  ![v35.toNat, 0]
def k0_cond3 (i : grid0.Coords) : BitVec 1 :=
  let arg0 : BitVec 32 := BitVec.ofNat 32 (i 0).val
  let c8_i32_4 : BitVec 32 := 8#32
  let v11 : BitVec 1 := Scalar.cmpi .slt arg0 c8_i32_4
  let c2_i32_5 : BitVec 32 := 2#32
  let v12 : BitVec 32 := Scalar.remsi arg0 c2_i32_5
  let c1_i32 : BitVec 32 := 1#32
  let v13 : BitVec 1 := Scalar.cmpi .eq v12 c1_i32
  let v14 : BitVec 1 := Scalar.andi v11 v13
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c128_i32 : BitVec 32 := 128#32
  let v29 : BitVec 32 := Scalar.muli arg1 c128_i32
  v29
def k0_off2 (i : grid0.Coords) : Fin 2 → Nat :=
  let arg1 : BitVec 32 := BitVec.ofNat 32 (i 1).val
  let c128_i32 : BitVec 32 := 128#32
  let v29 : BitVec 32 := Scalar.muli arg1 c128_i32
  let v30 : BitVec 32 := v29
  let v35 : Index := Scalar.indexCast v30
  let c0_16 : Index := 0#32
  ![v35.toNat, 0]
def k0_cond4 (i : grid0.Coords) : BitVec 1 :=
  let arg0 : BitVec 32 := BitVec.ofNat 32 (i 0).val
  let c8_i32_7 : BitVec 32 := 8#32
  let v17 : BitVec 1 := Scalar.cmpi .eq arg0 c8_i32_7
  let c2_i32_8 : BitVec 32 := 2#32
  let v18 : BitVec 32 := Scalar.remsi arg0 c2_i32_8
  let c0_i32_9 : BitVec 32 := 0#32
  let v19 : BitVec 1 := Scalar.cmpi .eq v18 c0_i32_9
  let v20 : BitVec 1 := Scalar.andi v17 v19
  let v21 : BitVec 32 := Scalar.extui v20
  let c0_i32_10 : BitVec 32 := 0#32
  let v22 : BitVec 1 := Scalar.cmpi .ne v21 c0_i32_10
  v22

def k0_mult3 (i : grid0.Coords) : BitVec 32 :=
  let arg1 : BitVec 32 := BitVec.ofNat 32 (i 1).val
  let c128_i32 : BitVec 32 := 128#32
  let v29 : BitVec 32 := Scalar.muli arg1 c128_i32
  v29
def k0_off3 (i : grid0.Coords) : Fin 2 → Nat :=
  let arg1 : BitVec 32 := BitVec.ofNat 32 (i 1).val
  let c128_i32 : BitVec 32 := 128#32
  let v29 : BitVec 32 := Scalar.muli arg1 c128_i32
  let v30 : BitVec 32 := v29
  let v35 : Index := Scalar.indexCast v30
  let c0_16 : Index := 0#32
  ![v35.toNat, 0]
def k0_cond5 (i : grid0.Coords) : BitVec 1 :=
  let arg0 : BitVec 32 := BitVec.ofNat 32 (i 0).val
  let c8_i32_11 : BitVec 32 := 8#32
  let v23 : BitVec 1 := Scalar.cmpi .eq arg0 c8_i32_11
  let c2_i32_12 : BitVec 32 := 2#32
  let v24 : BitVec 32 := Scalar.remsi arg0 c2_i32_12
  let c1_i32_13 : BitVec 32 := 1#32
  let v25 : BitVec 1 := Scalar.cmpi .eq v24 c1_i32_13
  let v26 : BitVec 1 := Scalar.andi v23 v25
  let v27 : BitVec 32 := Scalar.extui v26
  let c0_i32_14 : BitVec 32 := 0#32
  let v28 : BitVec 1 := Scalar.cmpi .ne v27 c0_i32_14
  v28

def k0_mult4 (i : grid0.Coords) : BitVec 32 :=
  let arg1 : BitVec 32 := BitVec.ofNat 32 (i 1).val
  let c128_i32 : BitVec 32 := 128#32
  let v29 : BitVec 32 := Scalar.muli arg1 c128_i32
  v29
def k0_off4 (i : grid0.Coords) : Fin 2 → Nat :=
  let arg1 : BitVec 32 := BitVec.ofNat 32 (i 1).val
  let c128_i32 : BitVec 32 := 128#32
  let v29 : BitVec 32 := Scalar.muli arg1 c128_i32
  let v30 : BitVec 32 := v29
  let v35 : Index := Scalar.indexCast v30
  let c0_16 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c7_i32 : BitVec 32 := 7#32
  let v1 : BitVec 32 := Scalar.select v0 c7_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c7_i32 : BitVec 32 := 7#32
  let v1 : BitVec 32 := Scalar.select v0 c7_i32 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S2x4096x2048 : Shape := ⟨3, ![2, 4096, 2048]⟩
abbrev S2048x8192 : Shape := ⟨2, ![2048, 8192]⟩
abbrev S8192x2048 : Shape := ⟨2, ![8192, 2048]⟩
abbrev S4x2048 : Shape := ⟨2, ![4, 2048]⟩
abbrev S2x4096x8192 : Shape := ⟨3, ![2, 4096, 8192]⟩
abbrev S_ : Shape := ⟨0, ![]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x8192, .f32⟩
  | .hbm, ⟨2, _⟩ => ⟨S8192x2048, .f32⟩
  | .hbm, ⟨3, _⟩ => ⟨S4x2048, .f32⟩
  | .hbm, ⟨4, _⟩ => ⟨S4x2048, .f32⟩
  | .hbm, ⟨5, _⟩ => ⟨S2x4096x8192, .f32⟩
  | .hbm, ⟨6, _⟩ => ⟨S_, .f32⟩
  | .hbm, ⟨7, _⟩ => ⟨S2x4096x8192, .f32⟩
  | .hbm, ⟨8, _⟩ => ⟨S2x4096x8192, .f32⟩
  | .hbm, ⟨9, _⟩ => ⟨S2x4096x8192, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S1x1x2048, .f32⟩
  | .hbm, ⟨46, _⟩ => ⟨S2x4096x2048, .f32⟩
  | .hbm, ⟨47, _⟩ => ⟨S2x4096x2048, .f32⟩
  | .hbm, ⟨48, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proj.lean ====
abbrev S2x4096x2048 : Shape := ⟨3, ![2, 4096, 2048]⟩
abbrev S2048x9728 : Shape := ⟨2, ![2048, 9728]⟩
abbrev S8192x2048 : Shape := ⟨2, ![8192, 2048]⟩
abbrev S8192x9216 : Shape := ⟨2, ![8192, 9216]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x9728, .f32⟩
  | .hbm, ⟨2, _⟩ => ⟨S8192x2048, .f32⟩
  | .hbm, ⟨3, _⟩ => ⟨S2048x9728, .bf16⟩
  | .hbm, ⟨4, _⟩ => ⟨S8192x9216, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2x4096x2048 : Shape := ⟨3, ![2, 4096, 2048]⟩
abbrev S2048x9728 : Shape := ⟨2, ![2048, 9728]⟩
abbrev S2x4096x9728 : Shape := ⟨3, ![2, 4096, 9728]⟩
abbrev S2x4096x9216 : Shape := ⟨3, ![2, 4096, 9216]⟩
abbrev S8192x9216 : Shape := ⟨2, ![8192, 9216]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x9728, .f32⟩
  | .hbm, ⟨2, _⟩ => ⟨S2x4096x9728, .f32⟩
  | .hbm, ⟨3, _⟩ => ⟨S2x4096x9216, .f32⟩
  | .hbm, ⟨4, _⟩ => ⟨S8192x9216, .f32⟩
  | .hbm, ⟨5, _⟩ => ⟨S8192x9216, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gelu.lean ====
abbrev S2x4096x2048 : Shape := ⟨3, ![2, 4096, 2048]⟩
abbrev S2048x2560 : Shape := ⟨2, ![2048, 2560]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x2560, .f32⟩
  | .hbm, ⟨2, _⟩ => ⟨S8192x2048, .f32⟩
  | .hbm, ⟨3, _⟩ => ⟨S2048x2560, .bf16⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GeluReferenceIdeal.lean ====
abbrev S2x4096x2048 : Shape := ⟨3, ![2, 4096, 2048]⟩
abbrev S2048x2560 : Shape := ⟨2, ![2048, 2560]⟩
abbrev S2x4096x2560 : Shape := ⟨3, ![2, 4096, 2560]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2560, .f32⟩
  | .hbm, ⟨2, _⟩ => ⟨S2x4096x2560, .f32⟩
  | .hbm, ⟨3, _⟩ => ⟨S2x4096x2048, .f32⟩
  | .hbm, ⟨4, _⟩ => ⟨S_, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S8192x2048, .f32⟩
  | .hbm, ⟨14, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MemKv.lean ====
abbrev S2x256x2048 : Shape := ⟨3, ![2, 256, 2048]⟩
abbrev S4x2048x1024 : Shape := ⟨3, ![4, 2048, 1024]⟩
abbrev S4x2x256x1024 : Shape := ⟨4, ![4, 2, 256, 1024]⟩
abbrev S1x256x2048 : Shape := ⟨3, ![1, 256, 2048]⟩
abbrev S1x2048x1024 : Shape := ⟨3, ![1, 2048, 1024]⟩
abbrev S1x1x256x1024 : Shape := ⟨4, ![1, 1, 256, 1024]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x256x2048, .f32⟩
  | .hbm, ⟨1, _⟩ => ⟨S4x2048x1024, .f32⟩
  | .hbm, ⟨2, _⟩ => ⟨S4x2x256x1024, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1x256x1024, .bf16⟩
  | .local _ .vmem, ⟨5, _⟩ => ⟨S1x1x256x1024, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvReferenceIdeal.lean ====
abbrev S2x256x2048 : Shape := ⟨3, ![2, 256, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S2x256x1024 : Shape := ⟨3, ![2, 256, 1024]⟩
abbrev S1x2x256x1024 : Shape := ⟨4, ![1, 2, 256, 1024]⟩
abbrev S4x2x256x1024 : Shape := ⟨4, ![4, 2, 256, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048x1024, .f32⟩
  | .hbm, ⟨2, _⟩ => ⟨S1x2048x1024, .f32⟩
  | .hbm, ⟨3, _⟩ => ⟨S2048x1024, .f32⟩
  | .hbm, ⟨4, _⟩ => ⟨S2x256x1024, .f32⟩
  | .hbm, ⟨5, _⟩ => ⟨S1x2048x1024, .f32⟩
  | .hbm, ⟨6, _⟩ => ⟨S2048x1024, .f32⟩
  | .hbm, ⟨7, _⟩ => ⟨S2x256x1024, .f32⟩
  | .hbm, ⟨8, _⟩ => ⟨S1x2048x1024, .f32⟩
  | .hbm, ⟨9, _⟩ => ⟨S2048x1024, .f32⟩
  | .hbm, ⟨10, _⟩ => ⟨S2x256x1024, .f32⟩
  | .hbm, ⟨11, _⟩ => ⟨S1x2048x1024, .f32⟩
  | .hbm, ⟨12, _⟩ => ⟨S2048x1024, .f32⟩
  | .hbm, ⟨13, _⟩ => ⟨S2x256x1024, .f32⟩
  | .hbm, ⟨14, _⟩ => ⟨S1x2x256x1024, .f32⟩
  | .hbm, ⟨15, _⟩ => ⟨S1x2x256x1024, .f32⟩
  | .hbm, ⟨16, _⟩ => ⟨S1x2x256x1024, .f32⟩
  | .hbm, ⟨17, _⟩ => ⟨S1x2x256x1024, .f32⟩
  | .hbm, ⟨18, _⟩ => ⟨S4x2x256x1024, .f32⟩
  | .hbm, ⟨19, _⟩ => ⟨S4x2x256x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Proof.AttnBuf.lean ====
module
public import proofs.«01_k».proof.Proof.Gen.KernelIdeal.Value
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
/-! What the attention call keeps in its scratch buffers: the queries of each head, and the keys and the values of each head with the
    block before them in front. -/
namespace Cert.KernelIdeal.Attn
open Cert.KernelIdeal Cert.KernelIdeal.Gen

/-- A buffer filled by stores that are blocks of one function, and that tile it, is that function. -/
theorem canon_all {S : Shape} {e : EltTy} (G : S.Idx → Elt Ideal e) (L : List (View.Piece (Elt Ideal) S e)) (h : View.PiecesOf G L)
    (hc : ∀ y, ∃ p ∈ L, y ∈ p.1.set) : View.canon L = G :=
  funext fun y => View.canon_apply_of_pieces G L h.mem y (hc y)

/-- The queries of head `h`, row by row. -/
def QG (x0 : Vec Ideal S1x16x1x1x16x1024 .bf16) : Vec Ideal S8x256x128 .bf16 := fun i =>
  x0 (ix6 0 ⟨(i 1).val / 16, by have := (i 1).isLt; simp at this; omega⟩ 0 0 ⟨(i 1).val % 16, by omega⟩
    ⟨(i 0).val * 128 + (i 2).val, by have := (i 0).isLt; have := (i 2).isLt; simp at *; omega⟩)

/-- The keys (or values) of head `h`: the block before the first, then the blocks of this program's rows. -/
def KG (xp : Vec Ideal S1x8x1x1x16x1024 .bf16) (xc : Vec Ideal S1x16x1x1x16x1024 .bf16) : Vec Ideal S8x384x128 .bf16 := fun i =>
  if h : (i 1).val < 128 then
    xp (ix6 0 ⟨(i 1).val / 16, by omega⟩ 0 0 ⟨(i 1).val % 16, by omega⟩
      ⟨(i 0).val * 128 + (i 2).val, by have := (i 0).isLt; have := (i 2).isLt; simp at *; omega⟩)
  else
    xc (ix6 0 ⟨((i 1).val - 128) / 16, by have := (i 1).isLt; simp at this; omega⟩ 0 0 ⟨((i 1).val - 128) % 16, by omega⟩
      ⟨(i 0).val * 128 + (i 2).val, by have := (i 0).isLt; have := (i 2).isLt; simp at *; omega⟩)

theorem canonQ (x0 : Vec Ideal S1x16x1x1x16x1024 .bf16) : View.canon (Val := Elt Ideal) (s := S8x256x128) (e := .bf16)
    [⟨Rect.unit ![7, 0, 0] ![1, 256, 128] inb_S8x256x128_S1x256x128_7_0_0, k0_pay47 (View.ld x0 (Rect.unit ![0, 0, 0, 0, 0, 896] ![1, 16, 1, 1, 16, 128] inb_S1x16x1x1x16x1024_S1x16x1x1x16x128_0_0_0_0_0_896))⟩,
      ⟨Rect.unit ![6, 0, 0] ![1, 256, 128] inb_S8x256x128_S1x256x128_6_0_0, k0_pay41 (View.ld x0 (Rect.unit ![0, 0, 0, 0, 0, 768] ![1, 16, 1, 1, 16, 128] inb_S1x16x1x1x16x1024_S1x16x1x1x16x128_0_0_0_0_0_768))⟩,
      ⟨Rect.unit ![5, 0, 0] ![1, 256, 128] inb_S8x256x128_S1x256x128_5_0_0, k0_pay36 (View.ld x0 (Rect.unit ![0, 0, 0, 0, 0, 640] ![1, 16, 1, 1, 16, 128] inb_S1x16x1x1x16x1024_S1x16x1x1x16x128_0_0_0_0_0_640))⟩,
      ⟨Rect.unit ![4, 0, 0] ![1, 256, 128] inb_S8x256x128_S1x256x128_4_0_0, k0_pay30 (View.ld x0 (Rect.unit ![0, 0, 0, 0, 0, 512] ![1, 16, 1, 1, 16, 128] inb_S1x16x1x1x16x1024_S1x16x1x1x16x128_0_0_0_0_0_512))⟩,
      ⟨Rect.unit ![3, 0, 0] ![1, 256, 128] inb_S8x256x128_S1x256x128_3_0_0, k0_pay24 (View.ld x0 (Rect.unit ![0, 0, 0, 0, 0, 384] ![1, 16, 1, 1, 16, 128] inb_S1x16x1x1x16x1024_S1x16x1x1x16x128_0_0_0_0_0_384))⟩,
      ⟨Rect.unit ![2, 0, 0] ![1, 256, 128] inb_S8x256x128_S1x256x128_2_0_0, k0_pay19 (View.ld x0 (Rect.unit ![0, 0, 0, 0, 0, 256] ![1, 16, 1, 1, 16, 128] inb_S1x16x1x1x16x1024_S1x16x1x1x16x128_0_0_0_0_0_256))⟩,
      ⟨Rect.unit ![1, 0, 0] ![1, 256, 128] inb_S8x256x128_S1x256x128_1_0_0, k0_pay13 (View.ld x0 (Rect.unit ![0, 0, 0, 0, 0, 128] ![1, 16, 1, 1, 16, 128] inb_S1x16x1x1x16x1024_S1x16x1x1x16x128_0_0_0_0_0_128))⟩,
      ⟨Rect.unit ![0, 0, 0] ![1, 256, 128] inb_S8x256x128_S1x256x128_0_0_0, k0_pay7 (View.ld x0 (Rect.unit ![0, 0, 0, 0, 0, 0] ![1, 16, 1, 1, 16, 128] inb_S1x16x1x1x16x1024_S1x16x1x1x16x128_0_0_0_0_0_0))⟩] = QG x0 := by
  funext y
  canon_tiles x h
  all_goals (open_payloads; pointwise [QG]; blk_ext)

theorem mem3 {o0 o1 s1 : ℕ} (inb : ∀ a, (![o0, o1, 0] : Fin 3 → ℕ) a + (![1, s1, 128] : Fin 3 → ℕ) a ≤ S8x384x128.size a) (y : S8x384x128.Idx)
    (h0 : (y 0).val = o0) (h1 : o1 ≤ (y 1).val) (h2 : (y 1).val < o1 + s1) : y ∈ (Rect.unit (s := S8x384x128) ![o0, o1, 0] ![1, s1, 128] inb).set :=
  Rect.mem_set_unit.mpr fun a => match a with
    | 0 => ⟨le_of_eq h0.symm, by show (y 0).val < o0 + 1; omega⟩
    | 1 => ⟨h1, h2⟩
    | 2 => ⟨Nat.zero_le _, by have := (y 2).isLt; show (y 2).val < 0 + 128; simpa using this⟩

theorem coverK {p0 q0} {p1 q1} {p2 q2} {p3 q3} {p4 q4} {p5 q5} {p6 q6} {p7 q7} (y : S8x384x128.Idx) : ∃ p ∈ ([
      ⟨Rect.unit ![7, 128, 0] ![1, 256, 128] inb_S8x384x128_S1x256x128_7_128_0, q7⟩, ⟨Rect.unit ![7, 0, 0] ![1, 128, 128] inb_S8x384x128_S1x128x128_7_0_0, p7⟩,
      ⟨Rect.unit ![6, 128, 0] ![1, 256, 128] inb_S8x384x128_S1x256x128_6_128_0, q6⟩, ⟨Rect.unit ![6, 0, 0] ![1, 128, 128] inb_S8x384x128_S1x128x128_6_0_0, p6⟩,
      ⟨Rect.unit ![5, 128, 0] ![1, 256, 128] inb_S8x384x128_S1x256x128_5_128_0, q5⟩, ⟨Rect.unit ![5, 0, 0] ![1, 128, 128] inb_S8x384x128_S1x128x128_5_0_0, p5⟩,
      ⟨Rect.unit ![4, 128, 0] ![1, 256, 128] inb_S8x384x128_S1x256x128_4_128_0, q4⟩, ⟨Rect.unit ![4, 0, 0] ![1, 128, 128] inb_S8x384x128_S1x128x128_4_0_0, p4⟩,
      ⟨Rect.unit ![3, 128, 0] ![1, 256, 128] inb_S8x384x128_S1x256x128_3_128_0, q3⟩, ⟨Rect.unit ![3, 0, 0] ![1, 128, 128] inb_S8x384x128_S1x128x128_3_0_0, p3⟩,
      ⟨Rect.unit ![2, 128, 0] ![1, 256, 128] inb_S8x384x128_S1x256x128_2_128_0, q2⟩, ⟨Rect.unit ![2, 0, 0] ![1, 128, 128] inb_S8x384x128_S1x128x128_2_0_0, p2⟩,
      ⟨Rect.unit ![1, 128, 0] ![1, 256, 128] inb_S8x384x128_S1x256x128_1_128_0, q1⟩, ⟨Rect.unit ![1, 0, 0] ![1, 128, 128] inb_S8x384x128_S1x128x128_1_0_0, p1⟩,
      ⟨Rect.unit ![0, 128, 0] ![1, 256, 128] inb_S8x384x128_S1x256x128_0_128_0, q0⟩, ⟨Rect.unit ![0, 0, 0] ![1, 128, 128] inb_S8x384x128_S1x128x128_0_0_0, p0⟩] :
      List (View.Piece (Elt Ideal) S8x384x128 .bf16)), y ∈ p.1.set := by
  have h0 := (y 0).isLt
  have h1 := (y 1).isLt
  have h2 := (y 2).isLt
  have h1' : (y 1).val < 384 := h1
  have h3 : (y 0).val = 0 ∨ (y 0).val = 1 ∨ (y 0).val = 2 ∨ (y 0).val = 3 ∨ (y 0).val = 4 ∨ (y 0).val = 5 ∨ (y 0).val = 6 ∨ (y 0).val = 7 := by
    simp at h0; omega
  by_cases hk : (y 1).val < 128
  · rcases h3 with e | e | e | e | e | e | e | e
    · exact ⟨_, List.getElem_mem (n := 15) (by simp), mem3 inb_S8x384x128_S1x128x128_0_0_0 y e (by omega) (by omega)⟩
    · exact ⟨_, List.getElem_mem (n := 13) (by simp), mem3 inb_S8x384x128_S1x128x128_1_0_0 y e (by omega) (by omega)⟩
    · exact ⟨_, List.getElem_mem (n := 11) (by simp), mem3 inb_S8x384x128_S1x128x128_2_0_0 y e (by omega) (by omega)⟩
    · exact ⟨_, List.getElem_mem (n := 9) (by simp), mem3 inb_S8x384x128_S1x128x128_3_0_0 y e (by omega) (by omega)⟩
    · exact ⟨_, List.getElem_mem (n := 7) (by simp), mem3 inb_S8x384x128_S1x128x128_4_0_0 y e (by omega) (by omega)⟩
    · exact ⟨_, List.getElem_mem (n := 5) (by simp), mem3 inb_S8x384x128_S1x128x128_5_0_0 y e (by omega) (by omega)⟩
    · exact ⟨_, List.getElem_mem (n := 3) (by simp), mem3 inb_S8x384x128_S1x128x128_6_0_0 y e (by omega) (by omega)⟩
    · exact ⟨_, List.getElem_mem (n := 1) (by simp), mem3 inb_S8x384x128_S1x128x128_7_0_0 y e (by omega) (by omega)⟩
  · rcases h3 with e | e | e | e | e | e | e | e
    · exact ⟨_, List.getElem_mem (n := 14) (by simp), mem3 inb_S8x384x128_S1x256x128_0_128_0 y e (by omega) (by omega)⟩
    · exact ⟨_, List.getElem_mem (n := 12) (by simp), mem3 inb_S8x384x128_S1x256x128_1_128_0 y e (by omega) (by omega)⟩
    · exact ⟨_, List.getElem_mem (n := 10) (by simp), mem3 inb_S8x384x128_S1x256x128_2_128_0 y e (by omega) (by omega)⟩
    · exact ⟨_, List.getElem_mem (n := 8) (by simp), mem3 inb_S8x384x128_S1x256x128_3_128_0 y e (by omega) (by omega)⟩
    · exact ⟨_, List.getElem_mem (n := 6) (by simp), mem3 inb_S8x384x128_S1x256x128_4_128_0 y e (by omega) (by omega)⟩
    · exact ⟨_, List.getElem_mem (n := 4) (by simp), mem3 inb_S8x384x128_S1x256x128_5_128_0 y e (by omega) (by omega)⟩
    · exact ⟨_, List.getElem_mem (n := 2) (by simp), mem3 inb_S8x384x128_S1x256x128_6_128_0 y e (by omega) (by omega)⟩
    · exact ⟨_, List.getElem_mem (n := 0) (by simp), mem3 inb_S8x384x128_S1x256x128_7_128_0 y e (by omega) (by omega)⟩

set_option maxHeartbeats 4000000 in
theorem canonK (x1 : Vec Ideal S1x16x1x1x16x1024 .bf16) (x2 : Vec Ideal S1x8x1x1x16x1024 .bf16) : View.canon (Val := Elt Ideal) (s := S8x384x128) (e := .bf16)
    [⟨Rect.unit ![7, 128, 0] ![1, 256, 128] inb_S8x384x128_S1x256x128_7_128_0, k0_pay50 (View.ld x1 (Rect.unit ![0, 0, 0, 0, 0, 896] ![1, 16, 1, 1, 16, 128] inb_S1x16x1x1x16x1024_S1x16x1x1x16x128_0_0_0_0_0_896))⟩,
      ⟨Rect.unit ![7, 0, 0] ![1, 128, 128] inb_S8x384x128_S1x128x128_7_0_0, k0_pay49 (k0_pay48 (View.ld x2 (Rect.unit ![0, 0, 0, 0, 0, 896] ![1, 8, 1, 1, 16, 128] inb_S1x8x1x1x16x1024_S1x8x1x1x16x128_0_0_0_0_0_896)))⟩,
      ⟨Rect.unit ![6, 128, 0] ![1, 256, 128] inb_S8x384x128_S1x256x128_6_128_0, k0_pay44 (k0_pay43 (View.ld x1 (Rect.unit ![0, 0, 0, 0, 0, 768] ![1, 16, 1, 1, 16, 128] inb_S1x16x1x1x16x1024_S1x16x1x1x16x128_0_0_0_0_0_768)))⟩,
      ⟨Rect.unit ![6, 0, 0] ![1, 128, 128] inb_S8x384x128_S1x128x128_6_0_0, k0_pay42 (View.ld x2 (Rect.unit ![0, 0, 0, 0, 0, 768] ![1, 8, 1, 1, 16, 128] inb_S1x8x1x1x16x1024_S1x8x1x1x16x128_0_0_0_0_0_768))⟩,
      ⟨Rect.unit ![5, 128, 0] ![1, 256, 128] inb_S8x384x128_S1x256x128_5_128_0, k0_pay38 (View.ld x1 (Rect.unit ![0, 0, 0, 0, 0, 640] ![1, 16, 1, 1, 16, 128] inb_S1x16x1x1x16x1024_S1x16x1x1x16x128_0_0_0_0_0_640))⟩,
      ⟨Rect.unit ![5, 0, 0] ![1, 128, 128] inb_S8x384x128_S1x128x128_5_0_0, k0_pay37 (View.ld x2 (Rect.unit ![0, 0, 0, 0, 0, 640] ![1, 8, 1, 1, 16, 128] inb_S1x8x1x1x16x1024_S1x8x1x1x16x128_0_0_0_0_0_640))⟩,
      ⟨Rect.unit ![4, 128, 0] ![1, 256, 128] inb_S8x384x128_S1x256x128_4_128_0, k0_pay33 (View.ld x1 (Rect.unit ![0, 0, 0, 0, 0, 512] ![1, 16, 1, 1, 16, 128] inb_S1x16x1x1x16x1024_S1x16x1x1x16x128_0_0_0_0_0_512))⟩,
      ⟨Rect.unit ![4, 0, 0] ![1, 128, 128] inb_S8x384x128_S1x128x128_4_0_0, k0_pay32 (k0_pay31 (View.ld x2 (Rect.unit ![0, 0, 0, 0, 0, 512] ![1, 8, 1, 1, 16, 128] inb_S1x8x1x1x16x1024_S1x8x1x1x16x128_0_0_0_0_0_512)))⟩,
      ⟨Rect.unit ![3, 128, 0] ![1, 256, 128] inb_S8x384x128_S1x256x128_3_128_0, k0_pay27 (k0_pay26 (View.ld x1 (Rect.unit ![0, 0, 0, 0, 0, 384] ![1, 16, 1, 1, 16, 128] inb_S1x16x1x1x16x1024_S1x16x1x1x16x128_0_0_0_0_0_384)))⟩,
      ⟨Rect.unit ![3, 0, 0] ![1, 128, 128] inb_S8x384x128_S1x128x128_3_0_0, k0_pay25 (View.ld x2 (Rect.unit ![0, 0, 0, 0, 0, 384] ![1, 8, 1, 1, 16, 128] inb_S1x8x1x1x16x1024_S1x8x1x1x16x128_0_0_0_0_0_384))⟩,
      ⟨Rect.unit ![2, 128, 0] ![1, 256, 128] inb_S8x384x128_S1x256x128_2_128_0, k0_pay21 (View.ld x1 (Rect.unit ![0, 0, 0, 0, 0, 256] ![1, 16, 1, 1, 16, 128] inb_S1x16x1x1x16x1024_S1x16x1x1x16x128_0_0_0_0_0_256))⟩,
      ⟨Rect.unit ![2, 0, 0] ![1, 128, 128] inb_S8x384x128_S1x128x128_2_0_0, k0_pay20 (View.ld x2 (Rect.unit ![0, 0, 0, 0, 0, 256] ![1, 8, 1, 1, 16, 128] inb_S1x8x1x1x16x1024_S1x8x1x1x16x128_0_0_0_0_0_256))⟩,
      ⟨Rect.unit ![1, 128, 0] ![1, 256, 128] inb_S8x384x128_S1x256x128_1_128_0, k0_pay16 (View.ld x1 (Rect.unit ![0, 0, 0, 0, 0, 128] ![1, 16, 1, 1, 16, 128] inb_S1x16x1x1x16x1024_S1x16x1x1x16x128_0_0_0_0_0_128))⟩,
      ⟨Rect.unit ![1, 0, 0] ![1, 128, 128] inb_S8x384x128_S1x128x128_1_0_0, k0_pay15 (k0_pay14 (View.ld x2 (Rect.unit ![0, 0, 0, 0, 0, 128] ![1, 8, 1, 1, 16, 128] inb_S1x8x1x1x16x1024_S1x8x1x1x16x128_0_0_0_0_0_128)))⟩,
      ⟨Rect.unit ![0, 128, 0] ![1, 256, 128] inb_S8x384x128_S1x256x128_0_128_0, k0_pay10 (k0_pay9 (View.ld x1 (Rect.unit ![0, 0, 0, 0, 0, 0] ![1, 16, 1, 1, 16, 128] inb_S1x16x1x1x16x1024_S1x16x1x1x16x128_0_0_0_0_0_0)))⟩,
      ⟨Rect.unit ![0, 0, 0] ![1, 128, 128] inb_S8x384x128_S1x128x128_0_0_0, k0_pay8 (View.ld x2 (Rect.unit ![0, 0, 0, 0, 0, 0] ![1, 8, 1, 1, 16, 128] inb_S1x8x1x1x16x1024_S1x8x1x1x16x128_0_0_0_0_0_0))⟩] = KG x2 x1 := by
  funext y
  canon_tiles x h using (coverK y)
  all_goals (open_payloads; pointwise [KG]; first | rw [dif_pos (by omega)] | rw [dif_neg (by omega)])
  all_goals blk_ext

set_option maxHeartbeats 4000000 in
theorem canonV (x3 : Vec Ideal S1x16x1x1x16x1024 .bf16) (x4 : Vec Ideal S1x8x1x1x16x1024 .bf16) : View.canon (Val := Elt Ideal) (s := S8x384x128) (e := .bf16)
    [⟨Rect.unit ![7, 128, 0] ![1, 256, 128] inb_S8x384x128_S1x256x128_7_128_0, k0_pay52 (View.ld x3 (Rect.unit ![0, 0, 0, 0, 0, 896] ![1, 16, 1, 1, 16, 128] inb_S1x16x1x1x16x1024_S1x16x1x1x16x128_0_0_0_0_0_896))⟩,
      ⟨Rect.unit ![7, 0, 0] ![1, 128, 128] inb_S8x384x128_S1x128x128_7_0_0, k0_pay51 (View.ld x4 (Rect.unit ![0, 0, 0, 0, 0, 896] ![1, 8, 1, 1, 16, 128] inb_S1x8x1x1x16x1024_S1x8x1x1x16x128_0_0_0_0_0_896))⟩,
      ⟨Rect.unit ![6, 128, 0] ![1, 256, 128] inb_S8x384x128_S1x256x128_6_128_0, k0_pay46 (View.ld x3 (Rect.unit ![0, 0, 0, 0, 0, 768] ![1, 16, 1, 1, 16, 128] inb_S1x16x1x1x16x1024_S1x16x1x1x16x128_0_0_0_0_0_768))⟩,
      ⟨Rect.unit ![6, 0, 0] ![1, 128, 128] inb_S8x384x128_S1x128x128_6_0_0, k0_pay45 (View.ld x4 (Rect.unit ![0, 0, 0, 0, 0, 768] ![1, 8, 1, 1, 16, 128] inb_S1x8x1x1x16x1024_S1x8x1x1x16x128_0_0_0_0_0_768))⟩,
      ⟨Rect.unit ![5, 128, 0] ![1, 256, 128] inb_S8x384x128_S1x256x128_5_128_0, k0_pay40 (View.ld x3 (Rect.unit ![0, 0, 0, 0, 0, 640] ![1, 16, 1, 1, 16, 128] inb_S1x16x1x1x16x1024_S1x16x1x1x16x128_0_0_0_0_0_640))⟩,
      ⟨Rect.unit ![5, 0, 0] ![1, 128, 128] inb_S8x384x128_S1x128x128_5_0_0, k0_pay39 (View.ld x4 (Rect.unit ![0, 0, 0, 0, 0, 640] ![1, 8, 1, 1, 16, 128] inb_S1x8x1x1x16x1024_S1x8x1x1x16x128_0_0_0_0_0_640))⟩,
      ⟨Rect.unit ![4, 128, 0] ![1, 256, 128] inb_S8x384x128_S1x256x128_4_128_0, k0_pay35 (View.ld x3 (Rect.unit ![0, 0, 0, 0, 0, 512] ![1, 16, 1, 1, 16, 128] inb_S1x16x1x1x16x1024_S1x16x1x1x16x128_0_0_0_0_0_512))⟩,
      ⟨Rect.unit ![4, 0, 0] ![1, 128, 128] inb_S8x384x128_S1x128x128_4_0_0, k0_pay34 (View.ld x4 (Rect.unit ![0, 0, 0, 0, 0, 512] ![1, 8, 1, 1, 16, 128] inb_S1x8x1x1x16x1024_S1x8x1x1x16x128_0_0_0_0_0_512))⟩,
      ⟨Rect.unit ![3, 128, 0] ![1, 256, 128] inb_S8x384x128_S1x256x128_3_128_0, k0_pay29 (View.ld x3 (Rect.unit ![0, 0, 0, 0, 0, 384] ![1, 16, 1, 1, 16, 128] inb_S1x16x1x1x16x1024_S1x16x1x1x16x128_0_0_0_0_0_384))⟩,
      ⟨Rect.unit ![3, 0, 0] ![1, 128, 128] inb_S8x384x128_S1x128x128_3_0_0, k0_pay28 (View.ld x4 (Rect.unit ![0, 0, 0, 0, 0, 384] ![1, 8, 1, 1, 16, 128] inb_S1x8x1x1x16x1024_S1x8x1x1x16x128_0_0_0_0_0_384))⟩,
      ⟨Rect.unit ![2, 128, 0] ![1, 256, 128] inb_S8x384x128_S1x256x128_2_128_0, k0_pay23 (View.ld x3 (Rect.unit ![0, 0, 0, 0, 0, 256] ![1, 16, 1, 1, 16, 128] inb_S1x16x1x1x16x1024_S1x16x1x1x16x128_0_0_0_0_0_256))⟩,
      ⟨Rect.unit ![2, 0, 0] ![1, 128, 128] inb_S8x384x128_S1x128x128_2_0_0, k0_pay22 (View.ld x4 (Rect.unit ![0, 0, 0, 0, 0, 256] ![1, 8, 1, 1, 16, 128] inb_S1x8x1x1x16x1024_S1x8x1x1x16x128_0_0_0_0_0_256))⟩,
      ⟨Rect.unit ![1, 128, 0] ![1, 256, 128] inb_S8x384x128_S1x256x128_1_128_0, k0_pay18 (View.ld x3 (Rect.unit ![0, 0, 0, 0, 0, 128] ![1, 16, 1, 1, 16, 128] inb_S1x16x1x1x16x1024_S1x16x1x1x16x128_0_0_0_0_0_128))⟩,
      ⟨Rect.unit ![1, 0, 0] ![1, 128, 128] inb_S8x384x128_S1x128x128_1_0_0, k0_pay17 (View.ld x4 (Rect.unit ![0, 0, 0, 0, 0, 128] ![1, 8, 1, 1, 16, 128] inb_S1x8x1x1x16x1024_S1x8x1x1x16x128_0_0_0_0_0_128))⟩,
      ⟨Rect.unit ![0, 128, 0] ![1, 256, 128] inb_S8x384x128_S1x256x128_0_128_0, k0_pay12 (View.ld x3 (Rect.unit ![0, 0, 0, 0, 0, 0] ![1, 16, 1, 1, 16, 128] inb_S1x16x1x1x16x1024_S1x16x1x1x16x128_0_0_0_0_0_0))⟩,
      ⟨Rect.unit ![0, 0, 0] ![1, 128, 128] inb_S8x384x128_S1x128x128_0_0_0, k0_pay11 (View.ld x4 (Rect.unit ![0, 0, 0, 0, 0, 0] ![1, 8, 1, 1, 16, 128] inb_S1x8x1x1x16x1024_S1x8x1x1x16x128_0_0_0_0_0_0))⟩] = KG x4 x3 := by
  funext y
  canon_tiles x h using (coverK y)
  all_goals (open_payloads; pointwise [KG]; first | rw [dif_pos (by omega)] | rw [dif_neg (by omega)])
  all_goals blk_ext

end Cert.KernelIdeal.Attn
-- ==== Proof.AttnMath.lean ====
module
public import Idealize.ShloMosaic.Lib.Pipeline.ValueKit
public import Idealize.ShloMosaic.Lib.Pointwise
@[expose] public section
noncomputable section
open Idealize.ShloMosaic
/-! Attention of one query over the extended reals: masked scores `s` (a masked key has score `⊥`) and values `v`. -/
namespace Cert.AttnMath

/-- The largest score. -/
def smax {n : ℕ} (s : Fin n → EReal) : EReal := Finset.univ.fold max ⊥ s

/-- The weight of a key before normalisation. -/
def wt {n : ℕ} (s : Fin n → EReal) (k : Fin n) : EReal := Ideal.exp (s k - smax s)

/-- The sum of the weights. -/
def wsum {n : ℕ} (s : Fin n → EReal) : EReal := ∑ k, wt s k

/-- The attention of the query. -/
def attO {n : ℕ} (s v : Fin n → EReal) : EReal := Ideal.div (∑ k, wt s k * v k) (wsum s)

/-- The logarithm of the sum of the exponentials of the scores. -/
def attL {n : ℕ} (s : Fin n → EReal) : EReal := smax s + Ideal.log (wsum s)

theorem wt_bot {n : ℕ} (s : Fin n → EReal) (k : Fin n) (h : s k = ⊥) : wt s k = 0 := by
  rw [wt, h, EReal.bot_sub]
  exact Ideal.exp_bot

/-- The values of masked keys do not matter. -/
theorem attO_congr {n : ℕ} (s s' v v' : Fin n → EReal) (hs : ∀ k, s k = s' k) (hv : ∀ k, s k ≠ ⊥ → v k = v' k) : attO s v = attO s' v' := by
  obtain rfl : s = s' := funext hs
  unfold attO
  congr 1
  refine Finset.sum_congr rfl fun k _ => ?_
  by_cases h : s k = ⊥
  · rw [wt_bot s k h, zero_mul, zero_mul]
  · rw [hv k h]

theorem neg_inf : Ideal.ofBits FTy.f32 4286578688#32 = ⊥ := by
  simp [Ideal.ofBits, Ideal.ieee]

/-- The argument at a row and a column. -/
def rd (x : (⟨3, ![2, 4096, 9216]⟩ : Shape).Idx → EReal) (b : Fin 2) (n c : ℕ) : EReal :=
  if h : n < 4096 ∧ c < 9216 then x (ix3 b ⟨n, h.1⟩ ⟨c, h.2⟩) else 0

theorem rd_eq (x : (⟨3, ![2, 4096, 9216]⟩ : Shape).Idx → EReal) (b : Fin 2) (n c : ℕ) (hn : n < 4096) (hc : c < 9216) :
    rd x b n c = x (ix3 b ⟨n, hn⟩ ⟨c, hc⟩) := dif_pos ⟨hn, hc⟩

/-- The score of the query at row `q` and the key at row `p` of head `h`; the queries of the group begin at column `o`. -/
def score (x : (⟨3, ![2, 4096, 9216]⟩ : Shape).Idx → EReal) (b : Fin 2) (o h q p : ℕ) : EReal :=
  (∑ e : Fin 128, rd x b q (o + h * 128 + e.val) * rd x b p (o + 1024 + h * 128 + e.val)) * Ideal.ofBits FTy.f32 1035273459#32

/-- Whether the query at place `t` of its block `n` sees key `k` of its two blocks: the block before and its own. -/
def seen (n t k : ℕ) : Prop := t ≤ k ∧ k ≤ t + 128 ∧ (n ≠ 0 ∨ 128 ≤ k)

instance (n t k : ℕ) : Decidable (seen n t k) := inferInstanceAs (Decidable (_ ∧ _ ∧ _))

/-- The masked scores of the query at place `t` of block `n` in the sub-sequence of rows `r` modulo the dilation `d`. -/
def scores (x : (⟨3, ![2, 4096, 9216]⟩ : Shape).Idx → EReal) (b : Fin 2) (o d r h n t : ℕ) (k : Fin 256) : EReal :=
  if seen n t k.val then score x b o h ((n * 128 + t) * d + r) ((n * 128 + k.val - 128) * d + r) else ⊥

/-- The values, column `e` of head `h`. -/
def vals (x : (⟨3, ![2, 4096, 9216]⟩ : Shape).Idx → EReal) (b : Fin 2) (o d r h n e : ℕ) (k : Fin 256) : EReal :=
  rd x b ((n * 128 + k.val - 128) * d + r) (o + 2048 + h * 128 + e)

end Cert.AttnMath
-- ==== Proof.AttnTile.lean ====
module
public import proofs.«01_k».proof.Proof.AttnBuf
public import proofs.«01_k».proof.Proof.AttnMath
@[expose] public section
set_option maxRecDepth 16384
noncomputable section
open Idealize.ShloMosaic Idealize.ShloMosaic.TcCoe Idealize.SL.Sem
/-! What the attention call stores for one head and one block of queries: the attention of each query. -/
namespace Cert.KernelIdeal.Attn
open Cert.KernelIdeal Cert.KernelIdeal.Gen Cert.AttnMath

/-- The scores of query `r` of a block: the scaled products with the keys, plus the mask. -/
def tsc (b : Vec Ideal S1x1x128x256 .f32) (q : Vec Ideal S1x128x128 .bf16) (k : Vec Ideal S1x256x128 .bf16) (r : Fin 128) (x : Fin 256) : EReal :=
  (∑ y : Fin 128, q (ix3 0 r y) * k (ix3 0 x y)) * Ideal.ofBits FTy.f32 1035273459#32 + b (ix4 0 0 r x)

theorem tile0_0 (b : Vec Ideal S1x1x128x256 .f32) (q : Vec Ideal S1x128x128 .bf16) (k v : Vec Ideal S1x256x128 .bf16) (r e : Fin 128) :
    (k0_pay58 b q k v : Vec Ideal S1x128x128 .bf16) (ix3 0 r e) = attO (tsc b q k r) (fun x => v (ix3 0 x e)) := by
  unfold attO wsum wt smax tsc
  rw [← neg_inf]
  pointwise [k0_pay58, k0_pay56, k0_pay57, k0_pay55, k0_pay54, k0_pay53]

theorem tile0_1 (b : Vec Ideal S1x1x128x256 .f32) (q : Vec Ideal S1x128x128 .bf16) (k v : Vec Ideal S1x256x128 .bf16) (r e : Fin 128) :
    (k0_pay64 (k0_pay53 b) q k v : Vec Ideal S1x128x128 .bf16) (ix3 0 r e) = attO (tsc b q k r) (fun x => v (ix3 0 x e)) := by
  unfold attO wsum wt smax tsc
  rw [← neg_inf]
  pointwise [k0_pay64, k0_pay53, k0_pay62, k0_pay63, k0_pay61, k0_pay60]

theorem tile0_2 (b : Vec Ideal S1x1x128x256 .f32) (q : Vec Ideal S1x128x128 .bf16) (k v : Vec Ideal S1x256x128 .bf16) (r e : Fin 128) :
    (k0_pay71 (k0_pay53 b) (k0_pay66 q) k v : Vec Ideal S1x128x128 .bf16) (ix3 0 r e) = attO (tsc b q k r) (fun x => v (ix3 0 x e)) := by
  unfold attO wsum wt smax tsc
  rw [← neg_inf]
  pointwise [k0_pay71, k0_pay53, k0_pay66, k0_pay69, k0_pay70, k0_pay68, k0_pay67]

theorem tile0_3 (b : Vec Ideal S1x1x128x256 .f32) (q : Vec Ideal S1x128x128 .bf16) (k v : Vec Ideal S1x256x128 .bf16) (r e : Fin 128) :
    (k0_pay78 (k0_pay73 (k0_pay53 b) q k) (k0_pay74 (k0_pay53 b) q k) v : Vec Ideal S1x128x128 .bf16) (ix3 0 r e) = attO (tsc b q k r) (fun x => v (ix3 0 x e)) := by
  unfold attO wsum wt smax tsc
  rw [← neg_inf]
  pointwise [k0_pay78, k0_pay73, k0_pay53, k0_pay74, k0_pay76, k0_pay77, k0_pay75]

theorem tile0_4 (b : Vec Ideal S1x1x128x256 .f32) (q : Vec Ideal S1x128x128 .bf16) (k v : Vec Ideal S1x256x128 .bf16) (r e : Fin 128) :
    (k0_pay85 (k0_pay83 (k0_pay53 b) q k) (k0_pay84 (k0_pay53 b) q k) v : Vec Ideal S1x128x128 .bf16) (ix3 0 r e) = attO (tsc b q k r) (fun x => v (ix3 0 x e)) := by
  unfold attO wsum wt smax tsc
  rw [← neg_inf]
  pointwise [k0_pay85, k0_pay83, k0_pay53, k0_pay84, k0_pay82, k0_pay81, k0_pay80]

theorem tile0_5 (b : Vec Ideal S1x1x128x256 .f32) (q : Vec Ideal S1x128x128 .bf16) (k v : Vec Ideal S1x256x128 .bf16) (r e : Fin 128) :
    (k0_pay92 (k0_pay91 (k0_pay53 b) q k v) : Vec Ideal S1x128x128 .bf16) (ix3 0 r e) = attO (tsc b q k r) (fun x => v (ix3 0 x e)) := by
  unfold attO wsum wt smax tsc
  rw [← neg_inf]
  pointwise [k0_pay92, k0_pay91, k0_pay53, k0_pay89, k0_pay90, k0_pay88, k0_pay87]

theorem tile0_6 (b : Vec Ideal S1x1x128x256 .f32) (q : Vec Ideal S1x128x128 .bf16) (k v : Vec Ideal S1x256x128 .bf16) (r e : Fin 128) :
    (k0_pay98 (k0_pay53 b) q k v : Vec Ideal S1x128x128 .bf16) (ix3 0 r e) = attO (tsc b q k r) (fun x => v (ix3 0 x e)) := by
  unfold attO wsum wt smax tsc
  rw [← neg_inf]
  pointwise [k0_pay98, k0_pay53, k0_pay96, k0_pay97, k0_pay95, k0_pay94]

theorem tile0_7 (b : Vec Ideal S1x1x128x256 .f32) (q : Vec Ideal S1x128x128 .bf16) (k v : Vec Ideal S1x256x128 .bf16) (r e : Fin 128) :
    (k0_pay104 (k0_pay53 b) q k v : Vec Ideal S1x128x128 .bf16) (ix3 0 r e) = attO (tsc b q k r) (fun x => v (ix3 0 x e)) := by
  unfold attO wsum wt smax tsc
  rw [← neg_inf]
  pointwise [k0_pay104, k0_pay53, k0_pay102, k0_pay103, k0_pay101, k0_pay100]

theorem tile1_0 (b : Vec Ideal S1x1x128x256 .f32) (q : Vec Ideal S1x128x128 .bf16) (k v : Vec Ideal S1x256x128 .bf16) (r e : Fin 128) :
    (k0_pay113 b q k v : Vec Ideal S1x128x128 .bf16) (ix3 0 r e) = attO (tsc b q k r) (fun x => v (ix3 0 x e)) := by
  unfold attO wsum wt smax tsc
  rw [← neg_inf]
  pointwise [k0_pay113, k0_pay111, k0_pay112, k0_pay110, k0_pay109, k0_pay107]

theorem tile1_1 (b : Vec Ideal S1x1x128x256 .f32) (q : Vec Ideal S1x128x128 .bf16) (k v : Vec Ideal S1x256x128 .bf16) (r e : Fin 128) :
    (k0_pay120 (k0_pay107 b) q k v : Vec Ideal S1x128x128 .bf16) (ix3 0 r e) = attO (tsc b q k r) (fun x => v (ix3 0 x e)) := by
  unfold attO wsum wt smax tsc
  rw [← neg_inf]
  pointwise [k0_pay120, k0_pay107, k0_pay118, k0_pay119, k0_pay117, k0_pay116]

theorem tile1_2 (b : Vec Ideal S1x1x128x256 .f32) (q : Vec Ideal S1x128x128 .bf16) (k v : Vec Ideal S1x256x128 .bf16) (r e : Fin 128) :
    (k0_pay127 (k0_pay107 b) (k0_pay122 q) k v : Vec Ideal S1x128x128 .bf16) (ix3 0 r e) = attO (tsc b q k r) (fun x => v (ix3 0 x e)) := by
  unfold attO wsum wt smax tsc
  rw [← neg_inf]
  pointwise [k0_pay127, k0_pay107, k0_pay122, k0_pay125, k0_pay126, k0_pay124, k0_pay123]

theorem tile1_3 (b : Vec Ideal S1x1x128x256 .f32) (q : Vec Ideal S1x128x128 .bf16) (k v : Vec Ideal S1x256x128 .bf16) (r e : Fin 128) :
    (k0_pay133 (k0_pay129 (k0_pay107 b) q k) v : Vec Ideal S1x128x128 .bf16) (ix3 0 r e) = attO (tsc b q k r) (fun x => v (ix3 0 x e)) := by
  unfold attO wsum wt smax tsc
  rw [← neg_inf]
  pointwise [k0_pay133, k0_pay129, k0_pay107, k0_pay131, k0_pay132, k0_pay130]

theorem tile1_4 (b : Vec Ideal S1x1x128x256 .f32) (q : Vec Ideal S1x128x128 .bf16) (k v : Vec Ideal S1x256x128 .bf16) (r e : Fin 128) :
    (k0_pay139 (k0_pay137 (k0_pay107 b) q k) (k0_pay138 (k0_pay107 b) q k) v : Vec Ideal S1x128x128 .bf16) (ix3 0 r e) = attO (tsc b q k r) (fun x => v (ix3 0 x e)) := by
  unfold attO wsum wt smax tsc
  rw [← neg_inf]
  pointwise [k0_pay139, k0_pay137, k0_pay107, k0_pay138, k0_pay136, k0_pay135]

theorem tile1_5 (b : Vec Ideal S1x1x128x256 .f32) (q : Vec Ideal S1x128x128 .bf16) (k v : Vec Ideal S1x256x128 .bf16) (r e : Fin 128) :
    (k0_pay147 (k0_pay145 (k0_pay107 b) q k v) (k0_pay146 (k0_pay107 b) q k) : Vec Ideal S1x128x128 .bf16) (ix3 0 r e) = attO (tsc b q k r) (fun x => v (ix3 0 x e)) := by
  unfold attO wsum wt smax tsc
  rw [← neg_inf]
  pointwise [k0_pay147, k0_pay145, k0_pay107, k0_pay146, k0_pay143, k0_pay144, k0_pay142, k0_pay141]

theorem tile1_6 (b : Vec Ideal S1x1x128x256 .f32) (q : Vec Ideal S1x128x128 .bf16) (k v : Vec Ideal S1x256x128 .bf16) (r e : Fin 128) :
    (k0_pay153 (k0_pay107 b) q k v : Vec Ideal S1x128x128 .bf16) (ix3 0 r e) = attO (tsc b q k r) (fun x => v (ix3 0 x e)) := by
  unfold attO wsum wt smax tsc
  rw [← neg_inf]
  pointwise [k0_pay153, k0_pay107, k0_pay151, k0_pay152, k0_pay150, k0_pay149]

theorem tile1_7 (b : Vec Ideal S1x1x128x256 .f32) (q : Vec Ideal S1x128x128 .bf16) (k v : Vec Ideal S1x256x128 .bf16) (r e : Fin 128) :
    (k0_pay158 (k0_pay107 b) q k v : Vec Ideal S1x128x128 .bf16) (ix3 0 r e) = attO (tsc b q k r) (fun x => v (ix3 0 x e)) := by
  unfold attO wsum wt smax tsc
  rw [← neg_inf]
  pointwise [k0_pay158, k0_pay107, k0_pay156, k0_pay157, k0_pay155, k0_pay154]

end Cert.KernelIdeal.Attn
-- ==== Proof.AttnLse.lean ====
module
public import proofs.«01_k».proof.Proof.AttnTile
public import proofs.«01_k».proof.Proof.AttnMath
@[expose] public section
set_option maxRecDepth 16384
noncomputable section
open Idealize.ShloMosaic Idealize.ShloMosaic.TcCoe Idealize.SL.Sem
/-! What the attention call stores of the log-sums of one block of queries: one lane for each head. -/
namespace Cert.KernelIdeal.Attn
open Cert.KernelIdeal Cert.KernelIdeal.Gen Cert.AttnMath

theorem lane0 : ∀ l : Fin 128, IntOp.cmpi .eq (BitVec.ofNat 32 l.val) 0#32 = if l.val = 0 then 1#1 else 0#1 := by decide +kernel

theorem lane1 : ∀ l : Fin 128, IntOp.cmpi .eq (BitVec.ofNat 32 l.val) 1#32 = if l.val = 1 then 1#1 else 0#1 := by decide +kernel

theorem lane2 : ∀ l : Fin 128, IntOp.cmpi .eq (BitVec.ofNat 32 l.val) 2#32 = if l.val = 2 then 1#1 else 0#1 := by decide +kernel

theorem lane3 : ∀ l : Fin 128, IntOp.cmpi .eq (BitVec.ofNat 32 l.val) 3#32 = if l.val = 3 then 1#1 else 0#1 := by decide +kernel

theorem lane4 : ∀ l : Fin 128, IntOp.cmpi .eq (BitVec.ofNat 32 l.val) 4#32 = if l.val = 4 then 1#1 else 0#1 := by decide +kernel

theorem lane5 : ∀ l : Fin 128, IntOp.cmpi .eq (BitVec.ofNat 32 l.val) 5#32 = if l.val = 5 then 1#1 else 0#1 := by decide +kernel

theorem lane6 : ∀ l : Fin 128, IntOp.cmpi .eq (BitVec.ofNat 32 l.val) 6#32 = if l.val = 6 then 1#1 else 0#1 := by decide +kernel

theorem lane7 : ∀ l : Fin 128, IntOp.cmpi .eq (BitVec.ofNat 32 l.val) 7#32 = if l.val = 7 then 1#1 else 0#1 := by decide +kernel

theorem pick {p : Prop} [Decidable p] {α : Type} (a b : α) : Scalar.select (if p then 1#1 else 0#1) a b = if p then a else b := by
  by_cases h : p
  · rw [if_pos h, if_pos h]; rfl
  · rw [if_neg h, if_neg h]; rfl

theorem zero_word : Ideal.ofBits FTy.f32 0#32 = 0 := by simp [Ideal.ofBits, Ideal.ieee]

theorem lseTile0 (b : Vec Ideal S1x1x128x256 .f32) (q0 q1 q2 q3 q4 q5 q6 q7 : Vec Ideal S1x128x128 .bf16) (k0 k1 k2 k3 k4 k5 k6 k7 : Vec Ideal S1x256x128 .bf16) (r l : Fin 128) :
    (k0_pay106 (k0_pay105 (iota Kind.tc S128x128 32 [1] iota_S128x128_d1_w32) (k0_pay53 b) (k0_pay93 (iota Kind.tc S128x128 32 [1] iota_S128x128_d1_w32) (k0_pay86 (iota Kind.tc S128x128 32 [1] iota_S128x128_d1_w32) (k0_pay79 (iota Kind.tc S128x128 32 [1] iota_S128x128_d1_w32) (k0_pay72 (iota Kind.tc S128x128 32 [1] iota_S128x128_d1_w32) (k0_pay53 b) (k0_pay65 (iota Kind.tc S128x128 32 [1] iota_S128x128_d1_w32) (k0_pay53 b) (k0_pay59 b q0 k0) q1 k1) (k0_pay66 q2) k2) (k0_pay73 (k0_pay53 b) q3 k3) (k0_pay74 (k0_pay53 b) q3 k3)) (k0_pay81 (k0_pay53 b) q4 k4) (k0_pay83 (k0_pay53 b) q4 k4)) (k0_pay88 (k0_pay53 b) q5 k5) (k0_pay90 (k0_pay53 b) q5 k5)) (k0_pay95 (k0_pay53 b) q6 k6) (k0_pay97 (k0_pay53 b) q6 k6) k0_pay99 q7 k7) : Vec Ideal S128x128 .f32) (ix2 r l) = if l.val = 7 then attL (tsc b q7 k7 r) else if l.val = 6 then attL (tsc b q6 k6 r) else if l.val = 5 then attL (tsc b q5 k5 r) else if l.val = 4 then attL (tsc b q4 k4 r) else if l.val = 3 then attL (tsc b q3 k3 r) else if l.val = 2 then attL (tsc b q2 k2 r) else if l.val = 1 then attL (tsc b q1 k1 r) else if l.val = 0 then attL (tsc b q0 k0 r) else 0 := by
  unfold attL wsum wt smax tsc
  rw [← neg_inf]
  pointwise [k0_pay106, k0_pay105, k0_pay53, k0_pay93, k0_pay86, k0_pay79, k0_pay72, k0_pay65, k0_pay59, k0_pay66, k0_pay73, k0_pay74, k0_pay81, k0_pay83, k0_pay88, k0_pay90, k0_pay95, k0_pay97, k0_pay99, k0_pay103, k0_pay101, k0_pay77, k0_pay75, k0_pay70, k0_pay68, k0_pay63, k0_pay61, k0_pay57, k0_pay55, k0_pay80, k0_pay82, k0_pay87, k0_pay89, k0_pay94, k0_pay96, k0_pay102, k0_pay100, k0_pay76, k0_pay69, k0_pay67, k0_pay62, k0_pay60, k0_pay56, k0_pay54, lane0, lane1, lane2, lane3, lane4, lane5, lane6, lane7, pick, zero_word]

theorem lseTile1 (b : Vec Ideal S1x1x128x256 .f32) (q0 q1 q2 q3 q4 q5 q6 q7 : Vec Ideal S1x128x128 .bf16) (k0 k1 k2 k3 k4 k5 k6 k7 : Vec Ideal S1x256x128 .bf16) (r l : Fin 128) :
    (k0_pay160 (k0_pay159 (iota Kind.tc S128x128 32 [1] iota_S128x128_d1_w32) (k0_pay107 b) (k0_pay148 (iota Kind.tc S128x128 32 [1] iota_S128x128_d1_w32) (k0_pay140 (iota Kind.tc S128x128 32 [1] iota_S128x128_d1_w32) (k0_pay134 (iota Kind.tc S128x128 32 [1] iota_S128x128_d1_w32) (k0_pay128 (iota Kind.tc S128x128 32 [1] iota_S128x128_d1_w32) (k0_pay107 b) (k0_pay121 (iota Kind.tc S128x128 32 [1] iota_S128x128_d1_w32) (k0_pay107 b) k0_pay108 (k0_pay114 (iota Kind.tc S128x128 32 [1] iota_S128x128_d1_w32)) (k0_pay115 b q0 k0) q1 k1) (k0_pay122 q2) k2) (k0_pay129 (k0_pay107 b) q3 k3)) (k0_pay136 (k0_pay107 b) q4 k4) (k0_pay138 (k0_pay107 b) q4 k4)) (k0_pay142 (k0_pay107 b) q5 k5) (k0_pay144 (k0_pay107 b) q5 k5)) (k0_pay150 (k0_pay107 b) q6 k6) (k0_pay152 (k0_pay107 b) q6 k6) q7 k7) : Vec Ideal S128x128 .f32) (ix2 r l) = if l.val = 7 then attL (tsc b q7 k7 r) else if l.val = 6 then attL (tsc b q6 k6 r) else if l.val = 5 then attL (tsc b q5 k5 r) else if l.val = 4 then attL (tsc b q4 k4 r) else if l.val = 3 then attL (tsc b q3 k3 r) else if l.val = 2 then attL (tsc b q2 k2 r) else if l.val = 1 then attL (tsc b q1 k1 r) else if l.val = 0 then attL (tsc b q0 k0 r) else 0 := by
  unfold attL wsum wt smax tsc
  rw [← neg_inf]
  pointwise [k0_pay160, k0_pay159, k0_pay107, k0_pay148, k0_pay140, k0_pay134, k0_pay128, k0_pay121, k0_pay108, k0_pay114, k0_pay115, k0_pay122, k0_pay129, k0_pay136, k0_pay138, k0_pay142, k0_pay144, k0_pay150, k0_pay152, k0_pay157, k0_pay155, k0_pay132, k0_pay130, k0_pay126, k0_pay124, k0_pay119, k0_pay117, k0_pay112, k0_pay110, k0_pay135, k0_pay137, k0_pay141, k0_pay143, k0_pay149, k0_pay151, k0_pay156, k0_pay154, k0_pay131, k0_pay125, k0_pay123, k0_pay118, k0_pay116, k0_pay111, k0_pay109, lane0, lane1, lane2, lane3, lane4, lane5, lane6, lane7, pick, zero_word]

end Cert.KernelIdeal.Attn
-- ==== Proof.AttnOut.lean ====
module
public import proofs.«01_k».proof.Proof.AttnLse
public import proofs.«01_k».proof.Proof.AttnMath
@[expose] public section
set_option maxRecDepth 16384
noncomputable section
open Idealize.ShloMosaic Idealize.ShloMosaic.TcCoe Idealize.SL.Sem
/-! The buffer of the attention of every head, and that of the log-sums, as functions of the buffers of queries, keys, values and masks. -/
namespace Cert.KernelIdeal.Attn
open Cert.KernelIdeal Cert.KernelIdeal.Gen Cert.AttnMath

/-- The scores of query `p` of head `h`, from the buffers. -/
def osc (Q : Vec Ideal S8x256x128 .bf16) (K : Vec Ideal S8x384x128 .bf16) (b0 b1 : Vec Ideal S1x1x128x256 .f32) (h : Fin 8) (p : Fin 256) (x : Fin 256) : EReal :=
  (∑ y : Fin 128, Q (ix3 h p y) * K (ix3 h ⟨p.val / 128 * 128 + x.val, by omega⟩ y)) * Ideal.ofBits FTy.f32 1035273459#32
    + (if p.val < 128 then b0 else b1) (ix4 0 0 ⟨p.val % 128, by omega⟩ x)

/-- The attention of every query of every head. -/
def OG (Q : Vec Ideal S8x256x128 .bf16) (K V : Vec Ideal S8x384x128 .bf16) (b0 b1 : Vec Ideal S1x1x128x256 .f32) : Vec Ideal S8x256x128 .bf16 := fun i =>
  attO (osc Q K b0 b1 (i 0) (i 1)) (fun x => V (ix3 (i 0) ⟨(i 1).val / 128 * 128 + x.val, by have := (i 1).isLt; simp at this; omega⟩ (i 2)))

/-- The log-sums: lane `h` holds those of head `h`. -/
def LG (Q : Vec Ideal S8x256x128 .bf16) (K : Vec Ideal S8x384x128 .bf16) (b0 b1 : Vec Ideal S1x1x128x256 .f32) : Vec Ideal S256x128 .f32 := fun i =>
  if h : (i 1).val < 8 then attL (osc Q K b0 b1 ⟨(i 1).val, h⟩ (i 0)) else (0 : EReal)

theorem tsc_eq (Q : Vec Ideal S8x256x128 .bf16) (K : Vec Ideal S8x384x128 .bf16) (b0 b1 b : Vec Ideal S1x1x128x256 .f32) (h : Fin 8) (p : Fin 256)
    (q : Vec Ideal S1x128x128 .bf16) (k : Vec Ideal S1x256x128 .bf16) (r : Fin 128)
    (hq : ∀ y, q (ix3 0 r y) = Q (ix3 h p y)) (hk : ∀ x y, k (ix3 0 x y) = K (ix3 h ⟨p.val / 128 * 128 + x.val, by omega⟩ y))
    (hb : ∀ x, b (ix4 0 0 r x) = (if p.val < 128 then b0 else b1) (ix4 0 0 ⟨p.val % 128, by omega⟩ x)) : tsc b q k r = osc Q K b0 b1 h p := by
  funext x
  unfold tsc osc
  rw [hb]
  simp only [hq, hk]

/-- The entries of a box one head thick. -/
theorem box3 {H P : ℕ} {α : Type} (G : (⟨3, ![H, P, 128]⟩ : Shape).Idx → α) {n : ℕ} (h o : ℕ) (inb : ∀ a, (![h, o, 0] : Fin 3 → ℕ) a + (![1, n, 128] : Fin 3 → ℕ) a ≤ (⟨3, ![H, P, 128]⟩ : Shape).size a)
    (x : Fin n) (y : Fin 128) (g : Fin H) (p : Fin P) (hg : g.val = h) (hp : p.val = o + x.val) :
    G ((Rect.unit (s := ⟨3, ![H, P, 128]⟩) ![h, o, 0] ![1, n, 128] inb).idx (ix3 0 x y)) = G (ix3 g p y) := by
  congr 1
  funext a
  apply Fin.ext
  match a with
  | ⟨0, _⟩ => exact (show h + 1 * 0 = g.val by omega)
  | ⟨1, _⟩ => exact (show o + 1 * x.val = p.val by omega)
  | ⟨2, _⟩ => exact (show 0 + 1 * y.val = y.val by omega)

theorem tsc_piece0 (Q : Vec Ideal S8x256x128 .bf16) (K : Vec Ideal S8x384x128 .bf16) (b0 b1 : Vec Ideal S1x1x128x256 .f32) (p : Fin 256) (g : Fin 8) (h : ℕ) i1 i2 (r : Fin 128)
    (h0 : g.val = h) (h1 : p.val = 0 + r.val) :
    tsc b0 (fun j => Q ((Rect.unit (s := S8x256x128) ![h, 0, 0] ![1, 128, 128] i1).idx j)) (fun j => K ((Rect.unit (s := S8x384x128) ![h, 0, 0] ![1, 256, 128] i2).idx j)) r
     = osc Q K b0 b1 g p := by
  refine tsc_eq Q K b0 b1 b0 g p _ _ r (fun a => box3 Q h 0 i1 r a g p h0 h1) (fun c a => box3 K h 0 i2 c a g _ h0 ?_) (fun c => ?_)
  · show p.val / 128 * 128 + c.val = 0 + c.val
    omega
  · rw [if_pos (by omega)]
    congr 1
    exact congrArg (fun z => ix4 0 0 z c) (Fin.ext (show r.val = p.val % 128 by omega))

theorem og_piece0 (Q : Vec Ideal S8x256x128 .bf16) (K V : Vec Ideal S8x384x128 .bf16) (b0 b1 : Vec Ideal S1x1x128x256 .f32) (y : S8x256x128.Idx) (h : ℕ) i1 i2 (r e : Fin 128)
    (h0 : (y 0).val = h) (h1 : (y 1).val = 0 + r.val) (h2 : (y 2).val = e.val) :
    attO (tsc b0 (fun j => Q ((Rect.unit (s := S8x256x128) ![h, 0, 0] ![1, 128, 128] i1).idx j)) (fun j => K ((Rect.unit (s := S8x384x128) ![h, 0, 0] ![1, 256, 128] i2).idx j)) r)
      (fun x => V ((Rect.unit (s := S8x384x128) ![h, 0, 0] ![1, 256, 128] i2).idx (ix3 0 x e))) = OG Q K V b0 b1 y := by
  unfold OG
  rw [tsc_piece0 Q K b0 b1 (y 1) (y 0) h i1 i2 r h0 h1]
  refine congrArg _ (funext fun x => ?_)
  obtain rfl : y 2 = e := Fin.ext h2
  refine box3 V h 0 i2 x (y 2) (y 0) _ h0 ?_
  show (y 1).val / 128 * 128 + x.val = 0 + x.val
  omega

theorem lg_piece0 (Q : Vec Ideal S8x256x128 .bf16) (K : Vec Ideal S8x384x128 .bf16) (b0 b1 : Vec Ideal S1x1x128x256 .f32) (p : Fin 256) (g : Fin 8) (h : ℕ) i1 i2 (r : Fin 128)
    (h0 : g.val = h) (h1 : p.val = 0 + r.val) :
    attL (tsc b0 (fun j => Q ((Rect.unit (s := S8x256x128) ![h, 0, 0] ![1, 128, 128] i1).idx j)) (fun j => K ((Rect.unit (s := S8x384x128) ![h, 0, 0] ![1, 256, 128] i2).idx j)) r)
     = attL (osc Q K b0 b1 g p) := congrArg attL (tsc_piece0 Q K b0 b1 p g h i1 i2 r h0 h1)

theorem tsc_piece1 (Q : Vec Ideal S8x256x128 .bf16) (K : Vec Ideal S8x384x128 .bf16) (b0 b1 : Vec Ideal S1x1x128x256 .f32) (p : Fin 256) (g : Fin 8) (h : ℕ) i1 i2 (r : Fin 128)
    (h0 : g.val = h) (h1 : p.val = 128 + r.val) :
    tsc b1 (fun j => Q ((Rect.unit (s := S8x256x128) ![h, 128, 0] ![1, 128, 128] i1).idx j)) (fun j => K ((Rect.unit (s := S8x384x128) ![h, 128, 0] ![1, 256, 128] i2).idx j)) r
     = osc Q K b0 b1 g p := by
  refine tsc_eq Q K b0 b1 b1 g p _ _ r (fun a => box3 Q h 128 i1 r a g p h0 h1) (fun c a => box3 K h 128 i2 c a g _ h0 ?_) (fun c => ?_)
  · show p.val / 128 * 128 + c.val = 128 + c.val
    omega
  · rw [if_neg (by omega)]
    congr 1
    exact congrArg (fun z => ix4 0 0 z c) (Fin.ext (show r.val = p.val % 128 by omega))

theorem og_piece1 (Q : Vec Ideal S8x256x128 .bf16) (K V : Vec Ideal S8x384x128 .bf16) (b0 b1 : Vec Ideal S1x1x128x256 .f32) (y : S8x256x128.Idx) (h : ℕ) i1 i2 (r e : Fin 128)
    (h0 : (y 0).val = h) (h1 : (y 1).val = 128 + r.val) (h2 : (y 2).val = e.val) :
    attO (tsc b1 (fun j => Q ((Rect.unit (s := S8x256x128) ![h, 128, 0] ![1, 128, 128] i1).idx j)) (fun j => K ((Rect.unit (s := S8x384x128) ![h, 128, 0] ![1, 256, 128] i2).idx j)) r)
      (fun x => V ((Rect.unit (s := S8x384x128) ![h, 128, 0] ![1, 256, 128] i2).idx (ix3 0 x e))) = OG Q K V b0 b1 y := by
  unfold OG
  rw [tsc_piece1 Q K b0 b1 (y 1) (y 0) h i1 i2 r h0 h1]
  refine congrArg _ (funext fun x => ?_)
  obtain rfl : y 2 = e := Fin.ext h2
  refine box3 V h 128 i2 x (y 2) (y 0) _ h0 ?_
  show (y 1).val / 128 * 128 + x.val = 128 + x.val
  omega

theorem lg_piece1 (Q : Vec Ideal S8x256x128 .bf16) (K : Vec Ideal S8x384x128 .bf16) (b0 b1 : Vec Ideal S1x1x128x256 .f32) (p : Fin 256) (g : Fin 8) (h : ℕ) i1 i2 (r : Fin 128)
    (h0 : g.val = h) (h1 : p.val = 128 + r.val) :
    attL (tsc b1 (fun j => Q ((Rect.unit (s := S8x256x128) ![h, 128, 0] ![1, 128, 128] i1).idx j)) (fun j => K ((Rect.unit (s := S8x384x128) ![h, 128, 0] ![1, 256, 128] i2).idx j)) r)
     = attL (osc Q K b0 b1 g p) := congrArg attL (tsc_piece1 Q K b0 b1 p g h i1 i2 r h0 h1)

set_option maxHeartbeats 4000000 in
theorem canonO (Q : Vec Ideal S8x256x128 .bf16) (K V : Vec Ideal S8x384x128 .bf16) (b0 b1 : Vec Ideal S1x1x128x256 .f32) : View.canon (Val := Elt Ideal) (s := S8x256x128) (e := .bf16)
    [⟨Rect.unit ![7, 128, 0] ![1, 128, 128] inb_S8x256x128_S1x128x128_7_128_0, k0_pay158 (k0_pay107 b1) (fun j => Q ((Rect.unit (s := S8x256x128) ![7, 128, 0] ![1, 128, 128] inb_S8x256x128_S1x128x128_7_128_0).idx j)) (fun j => K ((Rect.unit (s := S8x384x128) ![7, 128, 0] ![1, 256, 128] inb_S8x384x128_S1x256x128_7_128_0).idx j)) (fun j => V ((Rect.unit (s := S8x384x128) ![7, 128, 0] ![1, 256, 128] inb_S8x384x128_S1x256x128_7_128_0).idx j))⟩,
      ⟨Rect.unit ![6, 128, 0] ![1, 128, 128] inb_S8x256x128_S1x128x128_6_128_0, k0_pay153 (k0_pay107 b1) (fun j => Q ((Rect.unit (s := S8x256x128) ![6, 128, 0] ![1, 128, 128] inb_S8x256x128_S1x128x128_6_128_0).idx j)) (fun j => K ((Rect.unit (s := S8x384x128) ![6, 128, 0] ![1, 256, 128] inb_S8x384x128_S1x256x128_6_128_0).idx j)) (fun j => V ((Rect.unit (s := S8x384x128) ![6, 128, 0] ![1, 256, 128] inb_S8x384x128_S1x256x128_6_128_0).idx j))⟩,
      ⟨Rect.unit ![5, 128, 0] ![1, 128, 128] inb_S8x256x128_S1x128x128_5_128_0, k0_pay147 (k0_pay145 (k0_pay107 b1) (fun j => Q ((Rect.unit (s := S8x256x128) ![5, 128, 0] ![1, 128, 128] inb_S8x256x128_S1x128x128_5_128_0).idx j)) (fun j => K ((Rect.unit (s := S8x384x128) ![5, 128, 0] ![1, 256, 128] inb_S8x384x128_S1x256x128_5_128_0).idx j)) (fun j => V ((Rect.unit (s := S8x384x128) ![5, 128, 0] ![1, 256, 128] inb_S8x384x128_S1x256x128_5_128_0).idx j))) (k0_pay146 (k0_pay107 b1) (fun j => Q ((Rect.unit (s := S8x256x128) ![5, 128, 0] ![1, 128, 128] inb_S8x256x128_S1x128x128_5_128_0).idx j)) (fun j => K ((Rect.unit (s := S8x384x128) ![5, 128, 0] ![1, 256, 128] inb_S8x384x128_S1x256x128_5_128_0).idx j)))⟩,
      ⟨Rect.unit ![4, 128, 0] ![1, 128, 128] inb_S8x256x128_S1x128x128_4_128_0, k0_pay139 (k0_pay137 (k0_pay107 b1) (fun j => Q ((Rect.unit (s := S8x256x128) ![4, 128, 0] ![1, 128, 128] inb_S8x256x128_S1x128x128_4_128_0).idx j)) (fun j => K ((Rect.unit (s := S8x384x128) ![4, 128, 0] ![1, 256, 128] inb_S8x384x128_S1x256x128_4_128_0).idx j))) (k0_pay138 (k0_pay107 b1) (fun j => Q ((Rect.unit (s := S8x256x128) ![4, 128, 0] ![1, 128, 128] inb_S8x256x128_S1x128x128_4_128_0).idx j)) (fun j => K ((Rect.unit (s := S8x384x128) ![4, 128, 0] ![1, 256, 128] inb_S8x384x128_S1x256x128_4_128_0).idx j))) (fun j => V ((Rect.unit (s := S8x384x128) ![4, 128, 0] ![1, 256, 128] inb_S8x384x128_S1x256x128_4_128_0).idx j))⟩,
      ⟨Rect.unit ![3, 128, 0] ![1, 128, 128] inb_S8x256x128_S1x128x128_3_128_0, k0_pay133 (k0_pay129 (k0_pay107 b1) (fun j => Q ((Rect.unit (s := S8x256x128) ![3, 128, 0] ![1, 128, 128] inb_S8x256x128_S1x128x128_3_128_0).idx j)) (fun j => K ((Rect.unit (s := S8x384x128) ![3, 128, 0] ![1, 256, 128] inb_S8x384x128_S1x256x128_3_128_0).idx j))) (fun j => V ((Rect.unit (s := S8x384x128) ![3, 128, 0] ![1, 256, 128] inb_S8x384x128_S1x256x128_3_128_0).idx j))⟩,
      ⟨Rect.unit ![2, 128, 0] ![1, 128, 128] inb_S8x256x128_S1x128x128_2_128_0, k0_pay127 (k0_pay107 b1) (k0_pay122 (fun j => Q ((Rect.unit (s := S8x256x128) ![2, 128, 0] ![1, 128, 128] inb_S8x256x128_S1x128x128_2_128_0).idx j))) (fun j => K ((Rect.unit (s := S8x384x128) ![2, 128, 0] ![1, 256, 128] inb_S8x384x128_S1x256x128_2_128_0).idx j)) (fun j => V ((Rect.unit (s := S8x384x128) ![2, 128, 0] ![1, 256, 128] inb_S8x384x128_S1x256x128_2_128_0).idx j))⟩,
      ⟨Rect.unit ![1, 128, 0] ![1, 128, 128] inb_S8x256x128_S1x128x128_1_128_0, k0_pay120 (k0_pay107 b1) (fun j => Q ((Rect.unit (s := S8x256x128) ![1, 128, 0] ![1, 128, 128] inb_S8x256x128_S1x128x128_1_128_0).idx j)) (fun j => K ((Rect.unit (s := S8x384x128) ![1, 128, 0] ![1, 256, 128] inb_S8x384x128_S1x256x128_1_128_0).idx j)) (fun j => V ((Rect.unit (s := S8x384x128) ![1, 128, 0] ![1, 256, 128] inb_S8x384x128_S1x256x128_1_128_0).idx j))⟩,
      ⟨Rect.unit ![0, 128, 0] ![1, 128, 128] inb_S8x256x128_S1x128x128_0_128_0, k0_pay113 b1 (fun j => Q ((Rect.unit (s := S8x256x128) ![0, 128, 0] ![1, 128, 128] inb_S8x256x128_S1x128x128_0_128_0).idx j)) (fun j => K ((Rect.unit (s := S8x384x128) ![0, 128, 0] ![1, 256, 128] inb_S8x384x128_S1x256x128_0_128_0).idx j)) (fun j => V ((Rect.unit (s := S8x384x128) ![0, 128, 0] ![1, 256, 128] inb_S8x384x128_S1x256x128_0_128_0).idx j))⟩,
      ⟨Rect.unit ![7, 0, 0] ![1, 128, 128] inb_S8x256x128_S1x128x128_7_0_0, k0_pay104 (k0_pay53 b0) (fun j => Q ((Rect.unit (s := S8x256x128) ![7, 0, 0] ![1, 128, 128] inb_S8x256x128_S1x128x128_7_0_0).idx j)) (fun j => K ((Rect.unit (s := S8x384x128) ![7, 0, 0] ![1, 256, 128] inb_S8x384x128_S1x256x128_7_0_0).idx j)) (fun j => V ((Rect.unit (s := S8x384x128) ![7, 0, 0] ![1, 256, 128] inb_S8x384x128_S1x256x128_7_0_0).idx j))⟩,
      ⟨Rect.unit ![6, 0, 0] ![1, 128, 128] inb_S8x256x128_S1x128x128_6_0_0, k0_pay98 (k0_pay53 b0) (fun j => Q ((Rect.unit (s := S8x256x128) ![6, 0, 0] ![1, 128, 128] inb_S8x256x128_S1x128x128_6_0_0).idx j)) (fun j => K ((Rect.unit (s := S8x384x128) ![6, 0, 0] ![1, 256, 128] inb_S8x384x128_S1x256x128_6_0_0).idx j)) (fun j => V ((Rect.unit (s := S8x384x128) ![6, 0, 0] ![1, 256, 128] inb_S8x384x128_S1x256x128_6_0_0).idx j))⟩,
      ⟨Rect.unit ![5, 0, 0] ![1, 128, 128] inb_S8x256x128_S1x128x128_5_0_0, k0_pay92 (k0_pay91 (k0_pay53 b0) (fun j => Q ((Rect.unit (s := S8x256x128) ![5, 0, 0] ![1, 128, 128] inb_S8x256x128_S1x128x128_5_0_0).idx j)) (fun j => K ((Rect.unit (s := S8x384x128) ![5, 0, 0] ![1, 256, 128] inb_S8x384x128_S1x256x128_5_0_0).idx j)) (fun j => V ((Rect.unit (s := S8x384x128) ![5, 0, 0] ![1, 256, 128] inb_S8x384x128_S1x256x128_5_0_0).idx j)))⟩,
      ⟨Rect.unit ![4, 0, 0] ![1, 128, 128] inb_S8x256x128_S1x128x128_4_0_0, k0_pay85 (k0_pay83 (k0_pay53 b0) (fun j => Q ((Rect.unit (s := S8x256x128) ![4, 0, 0] ![1, 128, 128] inb_S8x256x128_S1x128x128_4_0_0).idx j)) (fun j => K ((Rect.unit (s := S8x384x128) ![4, 0, 0] ![1, 256, 128] inb_S8x384x128_S1x256x128_4_0_0).idx j))) (k0_pay84 (k0_pay53 b0) (fun j => Q ((Rect.unit (s := S8x256x128) ![4, 0, 0] ![1, 128, 128] inb_S8x256x128_S1x128x128_4_0_0).idx j)) (fun j => K ((Rect.unit (s := S8x384x128) ![4, 0, 0] ![1, 256, 128] inb_S8x384x128_S1x256x128_4_0_0).idx j))) (fun j => V ((Rect.unit (s := S8x384x128) ![4, 0, 0] ![1, 256, 128] inb_S8x384x128_S1x256x128_4_0_0).idx j))⟩,
      ⟨Rect.unit ![3, 0, 0] ![1, 128, 128] inb_S8x256x128_S1x128x128_3_0_0, k0_pay78 (k0_pay73 (k0_pay53 b0) (fun j => Q ((Rect.unit (s := S8x256x128) ![3, 0, 0] ![1, 128, 128] inb_S8x256x128_S1x128x128_3_0_0).idx j)) (fun j => K ((Rect.unit (s := S8x384x128) ![3, 0, 0] ![1, 256, 128] inb_S8x384x128_S1x256x128_3_0_0).idx j))) (k0_pay74 (k0_pay53 b0) (fun j => Q ((Rect.unit (s := S8x256x128) ![3, 0, 0] ![1, 128, 128] inb_S8x256x128_S1x128x128_3_0_0).idx j)) (fun j => K ((Rect.unit (s := S8x384x128) ![3, 0, 0] ![1, 256, 128] inb_S8x384x128_S1x256x128_3_0_0).idx j))) (fun j => V ((Rect.unit (s := S8x384x128) ![3, 0, 0] ![1, 256, 128] inb_S8x384x128_S1x256x128_3_0_0).idx j))⟩,
      ⟨Rect.unit ![2, 0, 0] ![1, 128, 128] inb_S8x256x128_S1x128x128_2_0_0, k0_pay71 (k0_pay53 b0) (k0_pay66 (fun j => Q ((Rect.unit (s := S8x256x128) ![2, 0, 0] ![1, 128, 128] inb_S8x256x128_S1x128x128_2_0_0).idx j))) (fun j => K ((Rect.unit (s := S8x384x128) ![2, 0, 0] ![1, 256, 128] inb_S8x384x128_S1x256x128_2_0_0).idx j)) (fun j => V ((Rect.unit (s := S8x384x128) ![2, 0, 0] ![1, 256, 128] inb_S8x384x128_S1x256x128_2_0_0).idx j))⟩,
      ⟨Rect.unit ![1, 0, 0] ![1, 128, 128] inb_S8x256x128_S1x128x128_1_0_0, k0_pay64 (k0_pay53 b0) (fun j => Q ((Rect.unit (s := S8x256x128) ![1, 0, 0] ![1, 128, 128] inb_S8x256x128_S1x128x128_1_0_0).idx j)) (fun j => K ((Rect.unit (s := S8x384x128) ![1, 0, 0] ![1, 256, 128] inb_S8x384x128_S1x256x128_1_0_0).idx j)) (fun j => V ((Rect.unit (s := S8x384x128) ![1, 0, 0] ![1, 256, 128] inb_S8x384x128_S1x256x128_1_0_0).idx j))⟩,
      ⟨Rect.unit ![0, 0, 0] ![1, 128, 128] inb_S8x256x128_S1x128x128_0_0_0, k0_pay58 b0 (fun j => Q ((Rect.unit (s := S8x256x128) ![0, 0, 0] ![1, 128, 128] inb_S8x256x128_S1x128x128_0_0_0).idx j)) (fun j => K ((Rect.unit (s := S8x384x128) ![0, 0, 0] ![1, 256, 128] inb_S8x384x128_S1x256x128_0_0_0).idx j)) (fun j => V ((Rect.unit (s := S8x384x128) ![0, 0, 0] ![1, 256, 128] inb_S8x384x128_S1x256x128_0_0_0).idx j))⟩] = OG Q K V b0 b1 := by
  funext y
  canon_tiles x h
  · obtain ⟨z, r, e, rfl⟩ : ∃ (z : Fin 1) (r e : Fin 128), x = ix3 z r e := ⟨x 0, x 1, x 2, eq_ix3 x⟩
    obtain rfl : z = 0 := Subsingleton.elim _ _
    rw [tile1_7]
    exact og_piece1 Q K V b0 b1 y 7 inb_S8x256x128_S1x128x128_7_128_0 inb_S8x384x128_S1x256x128_7_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_6]
    exact og_piece1 Q K V b0 b1 y 6 inb_S8x256x128_S1x128x128_6_128_0 inb_S8x384x128_S1x256x128_6_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_5]
    exact og_piece1 Q K V b0 b1 y 5 inb_S8x256x128_S1x128x128_5_128_0 inb_S8x384x128_S1x256x128_5_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_4]
    exact og_piece1 Q K V b0 b1 y 4 inb_S8x256x128_S1x128x128_4_128_0 inb_S8x384x128_S1x256x128_4_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_3]
    exact og_piece1 Q K V b0 b1 y 3 inb_S8x256x128_S1x128x128_3_128_0 inb_S8x384x128_S1x256x128_3_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_2]
    exact og_piece1 Q K V b0 b1 y 2 inb_S8x256x128_S1x128x128_2_128_0 inb_S8x384x128_S1x256x128_2_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_1]
    exact og_piece1 Q K V b0 b1 y 1 inb_S8x256x128_S1x128x128_1_128_0 inb_S8x384x128_S1x256x128_1_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile1_0]
    exact og_piece1 Q K V b0 b1 y 0 inb_S8x256x128_S1x128x128_0_128_0 inb_S8x384x128_S1x256x128_0_128_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_7]
    exact og_piece0 Q K V b0 b1 y 7 inb_S8x256x128_S1x128x128_7_0_0 inb_S8x384x128_S1x256x128_7_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_6]
    exact og_piece0 Q K V b0 b1 y 6 inb_S8x256x128_S1x128x128_6_0_0 inb_S8x384x128_S1x256x128_6_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_5]
    exact og_piece0 Q K V b0 b1 y 5 inb_S8x256x128_S1x128x128_5_0_0 inb_S8x384x128_S1x256x128_5_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_4]
    exact og_piece0 Q K V b0 b1 y 4 inb_S8x256x128_S1x128x128_4_0_0 inb_S8x384x128_S1x256x128_4_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_3]
    exact og_piece0 Q K V b0 b1 y 3 inb_S8x256x128_S1x128x128_3_0_0 inb_S8x384x128_S1x256x128_3_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_2]
    exact og_piece0 Q K V b0 b1 y 2 inb_S8x256x128_S1x128x128_2_0_0 inb_S8x384x128_S1x256x128_2_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_1]
    exact og_piece0 Q K V b0 b1 y 1 inb_S8x256x128_S1x128x128_1_0_0 inb_S8x384x128_S1x256x128_1_0_0 r e (by simpa using h0) (by simpa using h1) h2
  · obtain ⟨z, r, e, rfl⟩ : ∃ (z : Fin 1) (r e : Fin 128), x = ix3 z r e := ⟨x 0, x 1, x 2, eq_ix3 x⟩
    obtain rfl : z = 0 := Subsingleton.elim _ _
    rw [tile0_0]
    exact og_piece0 Q K V b0 b1 y 0 inb_S8x256x128_S1x128x128_0_0_0 inb_S8x384x128_S1x256x128_0_0_0 r e (by simpa using h0) (by simpa using h1) h2

set_option maxHeartbeats 4000000 in
theorem canonL (Q : Vec Ideal S8x256x128 .bf16) (K : Vec Ideal S8x384x128 .bf16) (b0 b1 : Vec Ideal S1x1x128x256 .f32) : View.canon (Val := Elt Ideal) (s := S256x128) (e := .f32)
    [⟨Rect.unit ![128, 0] ![128, 128] inb_S256x128_S128x128_128_0, k0_pay160 (k0_pay159 (iota Kind.tc S128x128 32 [1] iota_S128x128_d1_w32) (k0_pay107 b1) (k0_pay148 (iota Kind.tc S128x128 32 [1] iota_S128x128_d1_w32) (k0_pay140 (iota Kind.tc S128x128 32 [1] iota_S128x128_d1_w32) (k0_pay134 (iota Kind.tc S128x128 32 [1] iota_S128x128_d1_w32) (k0_pay128 (iota Kind.tc S128x128 32 [1] iota_S128x128_d1_w32) (k0_pay107 b1) (k0_pay121 (iota Kind.tc S128x128 32 [1] iota_S128x128_d1_w32) (k0_pay107 b1) k0_pay108 (k0_pay114 (iota Kind.tc S128x128 32 [1] iota_S128x128_d1_w32)) (k0_pay115 b1 (fun j => Q ((Rect.unit (s := S8x256x128) ![0, 128, 0] ![1, 128, 128] inb_S8x256x128_S1x128x128_0_128_0).idx j)) (fun j => K ((Rect.unit (s := S8x384x128) ![0, 128, 0] ![1, 256, 128] inb_S8x384x128_S1x256x128_0_128_0).idx j))) (fun j => Q ((Rect.unit (s := S8x256x128) ![1, 128, 0] ![1, 128, 128] inb_S8x256x128_S1x128x128_1_128_0).idx j)) (fun j => K ((Rect.unit (s := S8x384x128) ![1, 128, 0] ![1, 256, 128] inb_S8x384x128_S1x256x128_1_128_0).idx j))) (k0_pay122 (fun j => Q ((Rect.unit (s := S8x256x128) ![2, 128, 0] ![1, 128, 128] inb_S8x256x128_S1x128x128_2_128_0).idx j))) (fun j => K ((Rect.unit (s := S8x384x128) ![2, 128, 0] ![1, 256, 128] inb_S8x384x128_S1x256x128_2_128_0).idx j))) (k0_pay129 (k0_pay107 b1) (fun j => Q ((Rect.unit (s := S8x256x128) ![3, 128, 0] ![1, 128, 128] inb_S8x256x128_S1x128x128_3_128_0).idx j)) (fun j => K ((Rect.unit (s := S8x384x128) ![3, 128, 0] ![1, 256, 128] inb_S8x384x128_S1x256x128_3_128_0).idx j)))) (k0_pay136 (k0_pay107 b1) (fun j => Q ((Rect.unit (s := S8x256x128) ![4, 128, 0] ![1, 128, 128] inb_S8x256x128_S1x128x128_4_128_0).idx j)) (fun j => K ((Rect.unit (s := S8x384x128) ![4, 128, 0] ![1, 256, 128] inb_S8x384x128_S1x256x128_4_128_0).idx j))) (k0_pay138 (k0_pay107 b1) (fun j => Q ((Rect.unit (s := S8x256x128) ![4, 128, 0] ![1, 128, 128] inb_S8x256x128_S1x128x128_4_128_0).idx j)) (fun j => K ((Rect.unit (s := S8x384x128) ![4, 128, 0] ![1, 256, 128] inb_S8x384x128_S1x256x128_4_128_0).idx j)))) (k0_pay142 (k0_pay107 b1) (fun j => Q ((Rect.unit (s := S8x256x128) ![5, 128, 0] ![1, 128, 128] inb_S8x256x128_S1x128x128_5_128_0).idx j)) (fun j => K ((Rect.unit (s := S8x384x128) ![5, 128, 0] ![1, 256, 128] inb_S8x384x128_S1x256x128_5_128_0).idx j))) (k0_pay144 (k0_pay107 b1) (fun j => Q ((Rect.unit (s := S8x256x128) ![5, 128, 0] ![1, 128, 128] inb_S8x256x128_S1x128x128_5_128_0).idx j)) (fun j => K ((Rect.unit (s := S8x384x128) ![5, 128, 0] ![1, 256, 128] inb_S8x384x128_S1x256x128_5_128_0).idx j)))) (k0_pay150 (k0_pay107 b1) (fun j => Q ((Rect.unit (s := S8x256x128) ![6, 128, 0] ![1, 128, 128] inb_S8x256x128_S1x128x128_6_128_0).idx j)) (fun j => K ((Rect.unit (s := S8x384x128) ![6, 128, 0] ![1, 256, 128] inb_S8x384x128_S1x256x128_6_128_0).idx j))) (k0_pay152 (k0_pay107 b1) (fun j => Q ((Rect.unit (s := S8x256x128) ![6, 128, 0] ![1, 128, 128] inb_S8x256x128_S1x128x128_6_128_0).idx j)) (fun j => K ((Rect.unit (s := S8x384x128) ![6, 128, 0] ![1, 256, 128] inb_S8x384x128_S1x256x128_6_128_0).idx j))) (fun j => Q ((Rect.unit (s := S8x256x128) ![7, 128, 0] ![1, 128, 128] inb_S8x256x128_S1x128x128_7_128_0).idx j)) (fun j => K ((Rect.unit (s := S8x384x128) ![7, 128, 0] ![1, 256, 128] inb_S8x384x128_S1x256x128_7_128_0).idx j)))⟩,
      ⟨Rect.unit ![0, 0] ![128, 128] inb_S256x128_S128x128_0_0, k0_pay106 (k0_pay105 (iota Kind.tc S128x128 32 [1] iota_S128x128_d1_w32) (k0_pay53 b0) (k0_pay93 (iota Kind.tc S128x128 32 [1] iota_S128x128_d1_w32) (k0_pay86 (iota Kind.tc S128x128 32 [1] iota_S128x128_d1_w32) (k0_pay79 (iota Kind.tc S128x128 32 [1] iota_S128x128_d1_w32) (k0_pay72 (iota Kind.tc S128x128 32 [1] iota_S128x128_d1_w32) (k0_pay53 b0) (k0_pay65 (iota Kind.tc S128x128 32 [1] iota_S128x128_d1_w32) (k0_pay53 b0) (k0_pay59 b0 (fun j => Q ((Rect.unit (s := S8x256x128) ![0, 0, 0] ![1, 128, 128] inb_S8x256x128_S1x128x128_0_0_0).idx j)) (fun j => K ((Rect.unit (s := S8x384x128) ![0, 0, 0] ![1, 256, 128] inb_S8x384x128_S1x256x128_0_0_0).idx j))) (fun j => Q ((Rect.unit (s := S8x256x128) ![1, 0, 0] ![1, 128, 128] inb_S8x256x128_S1x128x128_1_0_0).idx j)) (fun j => K ((Rect.unit (s := S8x384x128) ![1, 0, 0] ![1, 256, 128] inb_S8x384x128_S1x256x128_1_0_0).idx j))) (k0_pay66 (fun j => Q ((Rect.unit (s := S8x256x128) ![2, 0, 0] ![1, 128, 128] inb_S8x256x128_S1x128x128_2_0_0).idx j))) (fun j => K ((Rect.unit (s := S8x384x128) ![2, 0, 0] ![1, 256, 128] inb_S8x384x128_S1x256x128_2_0_0).idx j))) (k0_pay73 (k0_pay53 b0) (fun j => Q ((Rect.unit (s := S8x256x128) ![3, 0, 0] ![1, 128, 128] inb_S8x256x128_S1x128x128_3_0_0).idx j)) (fun j => K ((Rect.unit (s := S8x384x128) ![3, 0, 0] ![1, 256, 128] inb_S8x384x128_S1x256x128_3_0_0).idx j))) (k0_pay74 (k0_pay53 b0) (fun j => Q ((Rect.unit (s := S8x256x128) ![3, 0, 0] ![1, 128, 128] inb_S8x256x128_S1x128x128_3_0_0).idx j)) (fun j => K ((Rect.unit (s := S8x384x128) ![3, 0, 0] ![1, 256, 128] inb_S8x384x128_S1x256x128_3_0_0).idx j)))) (k0_pay81 (k0_pay53 b0) (fun j => Q ((Rect.unit (s := S8x256x128) ![4, 0, 0] ![1, 128, 128] inb_S8x256x128_S1x128x128_4_0_0).idx j)) (fun j => K ((Rect.unit (s := S8x384x128) ![4, 0, 0] ![1, 256, 128] inb_S8x384x128_S1x256x128_4_0_0).idx j))) (k0_pay83 (k0_pay53 b0) (fun j => Q ((Rect.unit (s := S8x256x128) ![4, 0, 0] ![1, 128, 128] inb_S8x256x128_S1x128x128_4_0_0).idx j)) (fun j => K ((Rect.unit (s := S8x384x128) ![4, 0, 0] ![1, 256, 128] inb_S8x384x128_S1x256x128_4_0_0).idx j)))) (k0_pay88 (k0_pay53 b0) (fun j => Q ((Rect.unit (s := S8x256x128) ![5, 0, 0] ![1, 128, 128] inb_S8x256x128_S1x128x128_5_0_0).idx j)) (fun j => K ((Rect.unit (s := S8x384x128) ![5, 0, 0] ![1, 256, 128] inb_S8x384x128_S1x256x128_5_0_0).idx j))) (k0_pay90 (k0_pay53 b0) (fun j => Q ((Rect.unit (s := S8x256x128) ![5, 0, 0] ![1, 128, 128] inb_S8x256x128_S1x128x128_5_0_0).idx j)) (fun j => K ((Rect.unit (s := S8x384x128) ![5, 0, 0] ![1, 256, 128] inb_S8x384x128_S1x256x128_5_0_0).idx j)))) (k0_pay95 (k0_pay53 b0) (fun j => Q ((Rect.unit (s := S8x256x128) ![6, 0, 0] ![1, 128, 128] inb_S8x256x128_S1x128x128_6_0_0).idx j)) (fun j => K ((Rect.unit (s := S8x384x128) ![6, 0, 0] ![1, 256, 128] inb_S8x384x128_S1x256x128_6_0_0).idx j))) (k0_pay97 (k0_pay53 b0) (fun j => Q ((Rect.unit (s := S8x256x128) ![6, 0, 0] ![1, 128, 128] inb_S8x256x128_S1x128x128_6_0_0).idx j)) (fun j => K ((Rect.unit (s := S8x384x128) ![6, 0, 0] ![1, 256, 128] inb_S8x384x128_S1x256x128_6_0_0).idx j))) k0_pay99 (fun j => Q ((Rect.unit (s := S8x256x128) ![7, 0, 0] ![1, 128, 128] inb_S8x256x128_S1x128x128_7_0_0).idx j)) (fun j => K ((Rect.unit (s := S8x384x128) ![7, 0, 0] ![1, 256, 128] inb_S8x384x128_S1x256x128_7_0_0).idx j)))⟩] = LG Q K b0 b1 := by
  funext y
  canon_tiles x h
  · obtain ⟨r, l, rfl⟩ : ∃ (r l : Fin 128), x = ix2 r l := ⟨x 0, x 1, eq_ix2 x⟩
    rw [lseTile1]
    have e0 : (y 0).val = 128 + r.val := by simpa using h0
    have e1 : (y 1).val = l.val := by simpa using h1
    unfold LG
    by_cases c7 : l.val = 7
    · rw [if_pos c7, dif_pos (by omega)]
      exact lg_piece1 Q K b0 b1 (y 0) ⟨(y 1).val, by omega⟩ 7 inb_S8x256x128_S1x128x128_7_128_0 inb_S8x384x128_S1x256x128_7_128_0 r (e1.trans c7) e0
    rw [if_neg c7]
    by_cases c6 : l.val = 6
    · rw [if_pos c6, dif_pos (by omega)]
      exact lg_piece1 Q K b0 b1 (y 0) ⟨(y 1).val, by omega⟩ 6 inb_S8x256x128_S1x128x128_6_128_0 inb_S8x384x128_S1x256x128_6_128_0 r (e1.trans c6) e0
    rw [if_neg c6]
    by_cases c5 : l.val = 5
    · rw [if_pos c5, dif_pos (by omega)]
      exact lg_piece1 Q K b0 b1 (y 0) ⟨(y 1).val, by omega⟩ 5 inb_S8x256x128_S1x128x128_5_128_0 inb_S8x384x128_S1x256x128_5_128_0 r (e1.trans c5) e0
    rw [if_neg c5]
    by_cases c4 : l.val = 4
    · rw [if_pos c4, dif_pos (by omega)]
      exact lg_piece1 Q K b0 b1 (y 0) ⟨(y 1).val, by omega⟩ 4 inb_S8x256x128_S1x128x128_4_128_0 inb_S8x384x128_S1x256x128_4_128_0 r (e1.trans c4) e0
    rw [if_neg c4]
    by_cases c3 : l.val = 3
    · rw [if_pos c3, dif_pos (by omega)]
      exact lg_piece1 Q K b0 b1 (y 0) ⟨(y 1).val, by omega⟩ 3 inb_S8x256x128_S1x128x128_3_128_0 inb_S8x384x128_S1x256x128_3_128_0 r (e1.trans c3) e0
    rw [if_neg c3]
    by_cases c2 : l.val = 2
    · rw [if_pos c2, dif_pos (by omega)]
      exact lg_piece1 Q K b0 b1 (y 0) ⟨(y 1).val, by omega⟩ 2 inb_S8x256x128_S1x128x128_2_128_0 inb_S8x384x128_S1x256x128_2_128_0 r (e1.trans c2) e0
    rw [if_neg c2]
    by_cases c1 : l.val = 1
    · rw [if_pos c1, dif_pos (by omega)]
      exact lg_piece1 Q K b0 b1 (y 0) ⟨(y 1).val, by omega⟩ 1 inb_S8x256x128_S1x128x128_1_128_0 inb_S8x384x128_S1x256x128_1_128_0 r (e1.trans c1) e0
    rw [if_neg c1]
    by_cases c0 : l.val = 0
    · rw [if_pos c0, dif_pos (by omega)]
      exact lg_piece1 Q K b0 b1 (y 0) ⟨(y 1).val, by omega⟩ 0 inb_S8x256x128_S1x128x128_0_128_0 inb_S8x384x128_S1x256x128_0_128_0 r (e1.trans c0) e0
    rw [if_neg c0]
    rw [dif_neg (by omega)]
  · obtain ⟨r, l, rfl⟩ : ∃ (r l : Fin 128), x = ix2 r l := ⟨x 0, x 1, eq_ix2 x⟩
    rw [lseTile0]
    have e0 : (y 0).val = 0 + r.val := by simpa using h0
    have e1 : (y 1).val = l.val := by simpa using h1
    unfold LG
    by_cases c7 : l.val = 7
    · rw [if_pos c7, dif_pos (by omega)]
      exact lg_piece0 Q K b0 b1 (y 0) ⟨(y 1).val, by omega⟩ 7 inb_S8x256x128_S1x128x128_7_0_0 inb_S8x384x128_S1x256x128_7_0_0 r (e1.trans c7) e0
    rw [if_neg c7]
    by_cases c6 : l.val = 6
    · rw [if_pos c6, dif_pos (by omega)]
      exact lg_piece0 Q K b0 b1 (y 0) ⟨(y 1).val, by omega⟩ 6 inb_S8x256x128_S1x128x128_6_0_0 inb_S8x384x128_S1x256x128_6_0_0 r (e1.trans c6) e0
    rw [if_neg c6]
    by_cases c5 : l.val = 5
    · rw [if_pos c5, dif_pos (by omega)]
      exact lg_piece0 Q K b0 b1 (y 0) ⟨(y 1).val, by omega⟩ 5 inb_S8x256x128_S1x128x128_5_0_0 inb_S8x384x128_S1x256x128_5_0_0 r (e1.trans c5) e0
    rw [if_neg c5]
    by_cases c4 : l.val = 4
    · rw [if_pos c4, dif_pos (by omega)]
      exact lg_piece0 Q K b0 b1 (y 0) ⟨(y 1).val, by omega⟩ 4 inb_S8x256x128_S1x128x128_4_0_0 inb_S8x384x128_S1x256x128_4_0_0 r (e1.trans c4) e0
    rw [if_neg c4]
    by_cases c3 : l.val = 3
    · rw [if_pos c3, dif_pos (by omega)]
      exact lg_piece0 Q K b0 b1 (y 0) ⟨(y 1).val, by omega⟩ 3 inb_S8x256x128_S1x128x128_3_0_0 inb_S8x384x128_S1x256x128_3_0_0 r (e1.trans c3) e0
    rw [if_neg c3]
    by_cases c2 : l.val = 2
    · rw [if_pos c2, dif_pos (by omega)]
      exact lg_piece0 Q K b0 b1 (y 0) ⟨(y 1).val, by omega⟩ 2 inb_S8x256x128_S1x128x128_2_0_0 inb_S8x384x128_S1x256x128_2_0_0 r (e1.trans c2) e0
    rw [if_neg c2]
    by_cases c1 : l.val = 1
    · rw [if_pos c1, dif_pos (by omega)]
      exact lg_piece0 Q K b0 b1 (y 0) ⟨(y 1).val, by omega⟩ 1 inb_S8x256x128_S1x128x128_1_0_0 inb_S8x384x128_S1x256x128_1_0_0 r (e1.trans c1) e0
    rw [if_neg c1]
    by_cases c0 : l.val = 0
    · rw [if_pos c0, dif_pos (by omega)]
      exact lg_piece0 Q K b0 b1 (y 0) ⟨(y 1).val, by omega⟩ 0 inb_S8x256x128_S1x128x128_0_0_0 inb_S8x384x128_S1x256x128_0_0_0 r (e1.trans c0) e0
    rw [if_neg c0]
    rw [dif_neg (by omega)]

end Cert.KernelIdeal.Attn
-- ==== Proof.AttnBias.lean ====
module
public import proofs.«01_k».proof.Proof.Gen.KernelIdeal.Value
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
/-! What the attention call keeps in its scratch buffers: the queries of each head, and the keys and the values of each head with the
    block before them in front. -/
namespace Cert.KernelIdeal.Attn
open Cert.KernelIdeal Cert.KernelIdeal.Gen

/-- The two masks: a key is seen up to 128 places before its query; before the first block there are no keys. -/
def BG : Vec Ideal S2x1x128x256 .f32 := fun i =>
  if (i 2).val ≤ (i 3).val ∧ (i 3).val ≤ (i 2).val + 128 ∧ ((i 0).val = 1 ∨ 128 ≤ (i 3).val) then (0 : EReal) else ⊥

theorem qpos : ∀ r : Fin 128, (IntOp.addi (IntOp.addi (IntOp.andi (IntOp.addi (BitVec.ofNat 32 r.val) 0#32) 4294967280#32)
      (IntOp.muli (1#32) (IntOp.andi (IntOp.addi (BitVec.ofNat 32 r.val) 0#32) 15#32)))
    (IntOp.andi (IntOp.shrsi ArithUnit.vector (IntOp.addi (BitVec.ofNat 32 r.val) 0#32) 4#32) 0#32)) = BitVec.ofNat 32 r.val := by decide +kernel

theorem kpos : ∀ k : Fin 256, (IntOp.addi (IntOp.addi (IntOp.addi (IntOp.andi (IntOp.andi (BitVec.ofNat 32 k.val) 127#32) 4294967280#32)
        (IntOp.muli (1#32) (IntOp.andi (IntOp.andi (BitVec.ofNat 32 k.val) 127#32) 15#32)))
      (IntOp.andi (IntOp.shrsi ArithUnit.vector (IntOp.andi (BitVec.ofNat 32 k.val) 127#32) 4#32) 0#32))
    (IntOp.andi (BitVec.ofNat 32 k.val) 128#32)) = BitVec.ofNat 32 k.val := by decide +kernel

theorem band : ∀ (r : Fin 128) (k : Fin 256),
    IntOp.andi (IntOp.cmpi .sge (IntOp.subi (IntOp.addi (128#32) (BitVec.ofNat 32 r.val)) (BitVec.ofNat 32 k.val)) 0#32)
      (IntOp.cmpi .sle (IntOp.subi (IntOp.addi (128#32) (BitVec.ofNat 32 r.val)) (BitVec.ofNat 32 k.val)) 128#32)
    = if r.val ≤ k.val ∧ k.val ≤ r.val + 128 then 1#1 else 0#1 := by decide +kernel

theorem here : ∀ k : Fin 256, IntOp.cmpi .sge (BitVec.ofNat 32 k.val) 128#32 = if 128 ≤ k.val then 1#1 else 0#1 := by decide +kernel

theorem ninf : Ideal.ofBits FTy.f32 4286578688#32 = ⊥ := by
  simp [Ideal.ofBits, Ideal.ieee]

theorem canonB : View.canon (Val := Elt Ideal) (s := S2x1x128x256) (e := .f32)
    [⟨Rect.unit ![1, 0, 0, 0] ![1, 1, 128, 256] inb_S2x1x128x256_S1x1x128x256_1_0_0_0, k0_pay6 (F := Ideal) (andi (cmpi CmpIPredicate.sge (subi (addi (broadcast S128x256 128#32) (addi (addi (andi (addi (iota Kind.tc S128x256 32 [0] iota_S128x256_d0_w32) (broadcast S128x256 0#32)) (broadcast S128x256 4294967280#32)) (muli (broadcast S128x256 1#32) (andi (addi (iota Kind.tc S128x256 32 [0] iota_S128x256_d0_w32) (broadcast S128x256 0#32)) (broadcast S128x256 15#32)))) (andi (shrsi (addi (iota Kind.tc S128x256 32 [0] iota_S128x256_d0_w32) (broadcast S128x256 0#32)) (broadcast S128x256 4#32)) (broadcast S128x256 0#32)))) (addi (addi (addi (andi (andi (iota Kind.tc S128x256 32 [1] iota_S128x256_d1_w32) (broadcast S128x256 127#32)) (broadcast S128x256 4294967280#32)) (muli (broadcast S128x256 1#32) (andi (andi (iota Kind.tc S128x256 32 [1] iota_S128x256_d1_w32) (broadcast S128x256 127#32)) (broadcast S128x256 15#32)))) (andi (shrsi (andi (iota Kind.tc S128x256 32 [1] iota_S128x256_d1_w32) (broadcast S128x256 127#32)) (broadcast S128x256 4#32)) (broadcast S128x256 0#32))) (andi (iota Kind.tc S128x256 32 [1] iota_S128x256_d1_w32) (broadcast S128x256 128#32)))) (broadcast S128x256 0#32)) (cmpi CmpIPredicate.sle (subi (addi (broadcast S128x256 128#32) (addi (addi (andi (addi (iota Kind.tc S128x256 32 [0] iota_S128x256_d0_w32) (broadcast S128x256 0#32)) (broadcast S128x256 4294967280#32)) (muli (broadcast S128x256 1#32) (andi (addi (iota Kind.tc S128x256 32 [0] iota_S128x256_d0_w32) (broadcast S128x256 0#32)) (broadcast S128x256 15#32)))) (andi (shrsi (addi (iota Kind.tc S128x256 32 [0] iota_S128x256_d0_w32) (broadcast S128x256 0#32)) (broadcast S128x256 4#32)) (broadcast S128x256 0#32)))) (addi (addi (addi (andi (andi (iota Kind.tc S128x256 32 [1] iota_S128x256_d1_w32) (broadcast S128x256 127#32)) (broadcast S128x256 4294967280#32)) (muli (broadcast S128x256 1#32) (andi (andi (iota Kind.tc S128x256 32 [1] iota_S128x256_d1_w32) (broadcast S128x256 127#32)) (broadcast S128x256 15#32)))) (andi (shrsi (andi (iota Kind.tc S128x256 32 [1] iota_S128x256_d1_w32) (broadcast S128x256 127#32)) (broadcast S128x256 4#32)) (broadcast S128x256 0#32))) (andi (iota Kind.tc S128x256 32 [1] iota_S128x256_d1_w32) (broadcast S128x256 128#32)))) (broadcast S128x256 128#32)))⟩,
      ⟨Rect.unit ![0, 0, 0, 0] ![1, 1, 128, 256] inb_S2x1x128x256_S1x1x128x256_0_0_0_0, k0_pay5 (F := Ideal) (andi (cmpi CmpIPredicate.sge (subi (addi (broadcast S128x256 128#32) (addi (addi (andi (addi (iota Kind.tc S128x256 32 [0] iota_S128x256_d0_w32) (broadcast S128x256 0#32)) (broadcast S128x256 4294967280#32)) (muli (broadcast S128x256 1#32) (andi (addi (iota Kind.tc S128x256 32 [0] iota_S128x256_d0_w32) (broadcast S128x256 0#32)) (broadcast S128x256 15#32)))) (andi (shrsi (addi (iota Kind.tc S128x256 32 [0] iota_S128x256_d0_w32) (broadcast S128x256 0#32)) (broadcast S128x256 4#32)) (broadcast S128x256 0#32)))) (addi (addi (addi (andi (andi (iota Kind.tc S128x256 32 [1] iota_S128x256_d1_w32) (broadcast S128x256 127#32)) (broadcast S128x256 4294967280#32)) (muli (broadcast S128x256 1#32) (andi (andi (iota Kind.tc S128x256 32 [1] iota_S128x256_d1_w32) (broadcast S128x256 127#32)) (broadcast S128x256 15#32)))) (andi (shrsi (andi (iota Kind.tc S128x256 32 [1] iota_S128x256_d1_w32) (broadcast S128x256 127#32)) (broadcast S128x256 4#32)) (broadcast S128x256 0#32))) (andi (iota Kind.tc S128x256 32 [1] iota_S128x256_d1_w32) (broadcast S128x256 128#32)))) (broadcast S128x256 0#32)) (cmpi CmpIPredicate.sle (subi (addi (broadcast S128x256 128#32) (addi (addi (andi (addi (iota Kind.tc S128x256 32 [0] iota_S128x256_d0_w32) (broadcast S128x256 0#32)) (broadcast S128x256 4294967280#32)) (muli (broadcast S128x256 1#32) (andi (addi (iota Kind.tc S128x256 32 [0] iota_S128x256_d0_w32) (broadcast S128x256 0#32)) (broadcast S128x256 15#32)))) (andi (shrsi (addi (iota Kind.tc S128x256 32 [0] iota_S128x256_d0_w32) (broadcast S128x256 0#32)) (broadcast S128x256 4#32)) (broadcast S128x256 0#32)))) (addi (addi (addi (andi (andi (iota Kind.tc S128x256 32 [1] iota_S128x256_d1_w32) (broadcast S128x256 127#32)) (broadcast S128x256 4294967280#32)) (muli (broadcast S128x256 1#32) (andi (andi (iota Kind.tc S128x256 32 [1] iota_S128x256_d1_w32) (broadcast S128x256 127#32)) (broadcast S128x256 15#32)))) (andi (shrsi (andi (iota Kind.tc S128x256 32 [1] iota_S128x256_d1_w32) (broadcast S128x256 127#32)) (broadcast S128x256 4#32)) (broadcast S128x256 0#32))) (andi (iota Kind.tc S128x256 32 [1] iota_S128x256_d1_w32) (broadcast S128x256 128#32)))) (broadcast S128x256 128#32))) (cmpi CmpIPredicate.sge (iota Kind.tc S128x256 32 [1] iota_S128x256_d1_w32) (broadcast S128x256 128#32))⟩] = BG := by
  funext y
  canon_tiles x h
  all_goals pointwise [BG, k0_pay5, k0_pay6]
  all_goals
    have e1 := qpos ⟨(x 2).val, x2_lt⟩
    have e2 := kpos ⟨(x 3).val, x3_lt⟩
    have e3 := band ⟨(x 2).val, x2_lt⟩ ⟨(x 3).val, x3_lt⟩
    have e4 := here ⟨(x 3).val, x3_lt⟩
    dsimp only at e1 e2 e3 e4
  · rw [e1, e2, e3, ninf]
    by_cases hb : (x 2).val ≤ (x 3).val ∧ (x 3).val ≤ (x 2).val + 128
    · rw [if_pos hb, if_pos (by omega)]; rfl
    · rw [if_neg hb, if_neg (by omega)]; rfl
  · rw [e1, e2, e3, e4, ninf]
    by_cases hb : (x 2).val ≤ (x 3).val ∧ (x 3).val ≤ (x 2).val + 128
    · by_cases hk : 128 ≤ (x 3).val
      · rw [if_pos hb, if_pos hk, if_pos (by omega)]; rfl
      · rw [if_pos hb, if_neg hk, if_neg (by omega)]; rfl
    · by_cases hk : 128 ≤ (x 3).val
      · rw [if_neg hb, if_pos hk, if_neg (by omega)]; rfl
      · rw [if_neg hb, if_neg hk, if_neg (by omega)]; rfl

end Cert.KernelIdeal.Attn
-- ==== Proof.AttnBlk.lean ====
module
public import proofs.«01_k».proof.Proof.AttnOut
public import proofs.«01_k».proof.Proof.AttnBias
public import proofs.«01_k».proof.Proof.AttnMath
@[expose] public section
set_option maxRecDepth 16384
noncomputable section
open Idealize.ShloMosaic Idealize.ShloMosaic.TcCoe Idealize.SL.Sem
/-! What one program of the attention call writes. -/
namespace Cert.KernelIdeal.Attn
open Idealize.ShloMosaic.Pipeline (Dat)
open Cert.KernelIdeal Cert.KernelIdeal.Gen Cert.AttnMath

/-- The output block from the buffer of all heads: sixteen by sixteen rows, the heads side by side. -/
def PG (G : Vec Ideal S8x256x128 .bf16) : Vec Ideal S1x16x1x1x16x1024 .bf16 := fun i =>
  G (ix3 ⟨(i 5).val / 128, by have := (i 5).isLt; simp at this; omega⟩
    ⟨(i 1).val * 16 + (i 4).val, by have := (i 1).isLt; have := (i 4).isLt; simp at *; omega⟩ ⟨(i 5).val % 128, by omega⟩)

set_option maxHeartbeats 4000000 in
theorem canonP (G : Vec Ideal S8x256x128 .bf16) : View.canon (Val := Elt Ideal) (s := S1x16x1x1x16x1024) (e := .bf16)
    [⟨Rect.unit ![0, 0, 0, 0, 0, 896] ![1, 16, 1, 1, 16, 128] inb_S1x16x1x1x16x1024_S1x16x1x1x16x128_0_0_0_0_0_896, k0_pay1 (fun j => G ((Rect.unit (s := S8x256x128) ![7, 0, 0] ![1, 256, 128] inb_S8x256x128_S1x256x128_7_0_0).idx j))⟩,
      ⟨Rect.unit ![0, 0, 0, 0, 0, 768] ![1, 16, 1, 1, 16, 128] inb_S1x16x1x1x16x1024_S1x16x1x1x16x128_0_0_0_0_0_768, k0_pay168 (fun j => G ((Rect.unit (s := S8x256x128) ![6, 0, 0] ![1, 256, 128] inb_S8x256x128_S1x256x128_6_0_0).idx j))⟩,
      ⟨Rect.unit ![0, 0, 0, 0, 0, 640] ![1, 16, 1, 1, 16, 128] inb_S1x16x1x1x16x1024_S1x16x1x1x16x128_0_0_0_0_0_640, k0_pay167 (fun j => G ((Rect.unit (s := S8x256x128) ![5, 0, 0] ![1, 256, 128] inb_S8x256x128_S1x256x128_5_0_0).idx j))⟩,
      ⟨Rect.unit ![0, 0, 0, 0, 0, 512] ![1, 16, 1, 1, 16, 128] inb_S1x16x1x1x16x1024_S1x16x1x1x16x128_0_0_0_0_0_512, k0_pay166 (fun j => G ((Rect.unit (s := S8x256x128) ![4, 0, 0] ![1, 256, 128] inb_S8x256x128_S1x256x128_4_0_0).idx j))⟩,
      ⟨Rect.unit ![0, 0, 0, 0, 0, 384] ![1, 16, 1, 1, 16, 128] inb_S1x16x1x1x16x1024_S1x16x1x1x16x128_0_0_0_0_0_384, k0_pay165 (k0_pay164 (fun j => G ((Rect.unit (s := S8x256x128) ![3, 0, 0] ![1, 256, 128] inb_S8x256x128_S1x256x128_3_0_0).idx j)))⟩,
      ⟨Rect.unit ![0, 0, 0, 0, 0, 256] ![1, 16, 1, 1, 16, 128] inb_S1x16x1x1x16x1024_S1x16x1x1x16x128_0_0_0_0_0_256, k0_pay163 (fun j => G ((Rect.unit (s := S8x256x128) ![2, 0, 0] ![1, 256, 128] inb_S8x256x128_S1x256x128_2_0_0).idx j))⟩,
      ⟨Rect.unit ![0, 0, 0, 0, 0, 128] ![1, 16, 1, 1, 16, 128] inb_S1x16x1x1x16x1024_S1x16x1x1x16x128_0_0_0_0_0_128, k0_pay162 (fun j => G ((Rect.unit (s := S8x256x128) ![1, 0, 0] ![1, 256, 128] inb_S8x256x128_S1x256x128_1_0_0).idx j))⟩,
      ⟨Rect.unit ![0, 0, 0, 0, 0, 0] ![1, 16, 1, 1, 16, 128] inb_S1x16x1x1x16x1024_S1x16x1x1x16x128_0_0_0_0_0_0, k0_pay161 (fun j => G ((Rect.unit (s := S8x256x128) ![0, 0, 0] ![1, 256, 128] inb_S8x256x128_S1x256x128_0_0_0).idx j))⟩] = PG G := by
  funext y
  canon_tiles x h
  all_goals (open_payloads; pointwise [PG]; blk_ext)

end Cert.KernelIdeal.Attn
-- ==== Proof.AttnAfter.lean ====
module
public import proofs.«01_k».proof.Proof.AttnBlk
@[expose] public section
set_option maxRecDepth 16384
noncomputable section
open Idealize.ShloMosaic Idealize.ShloMosaic.TcCoe Idealize.SL.Sem
open Idealize.ShloMosaic.Pipeline (Dat)
/-! What one program of the attention call writes, from its input blocks. -/
namespace Cert.KernelIdeal.Attn
open Cert.KernelIdeal Cert.KernelIdeal.Gen Cert.AttnMath

variable (m : (ℓ : Loc nD τ sig) → Buf (Elt Ideal) ℓ)

theorem biasA (c : Dev nD) (t : Fin cfg0.N) (h0 : t.val % 32 = 0) : (outsAt0 m c t.val t.isLt).2.2 = BG := by
  rw [outsAt0_A m c t h0]
  frame_out
  exact canonB

theorem biasB (c : Dev nD) (t : Fin cfg0.N) (h0 : ¬t.val % 32 = 0) : (outsAt0 m c t.val t.isLt).2.2 = (outsAt0 m c (t.val - 1) (Nat.lt_of_le_of_lt (Nat.sub_le _ _) t.isLt)).2.2 := by
  rw [outsAt0_B m c t h0]
  rfl

/-- The masks, once stored by the first program, stay. -/
theorem bias (c : Dev nD) : ∀ (n : ℕ) (hn : n < cfg0.N), (outsAt0 m c n hn).2.2 = BG := by
  intro n
  induction n with
  | zero => intro hn; exact biasA m c ⟨0, hn⟩ rfl
  | succ n ih =>
    intro hn
    have hN := lt_of_lt_of_eq hn (show cfg0.N = 32 from N_0)
    exact (biasB m c ⟨n + 1, hn⟩ (by show ¬(n + 1) % 32 = 0; omega)).trans (ih _)

/-- The mask of the block of queries at box offset `o`. -/
def bx (B : Vec Ideal S2x1x128x256 .f32) (o : Fin 4 → ℕ) (inb : ∀ a, o a + (![1, 1, 128, 256] : Fin 4 → ℕ) a ≤ S2x1x128x256.size a) : Vec Ideal S1x1x128x256 .f32 :=
  fun j => B ((Rect.unit (s := S2x1x128x256) o ![1, 1, 128, 256] inb).idx j)

theorem bx_congr {B B' : Vec Ideal S2x1x128x256 .f32} (h : B = B') (o : Fin 4 → ℕ) (inb) : bx B o inb = bx B' o inb := by rw [h]

/-- The mask of the first, and of the second, block of queries. -/
abbrev B0 : Vec Ideal S1x1x128x256 .f32 := bx BG ![0, 0, 0, 0] inb_S2x1x128x256_S1x1x128x256_0_0_0_0
abbrev B1 : Vec Ideal S1x1x128x256 .f32 := bx BG ![1, 0, 0, 0] inb_S2x1x128x256_S1x1x128x256_1_0_0_0

theorem offA : ∀ t : Fin grid0.N, ∀ a : Fin 4, k0_off1 (grid0.coords t) a = 0 := by decide +kernel

theorem off0 (t : Fin grid0.N) : k0_off1 (grid0.coords t) = ![0, 0, 0, 0] := by
  funext a
  rw [offA t a]
  fin_cases a <;> rfl

theorem inbOff (t : Fin grid0.N) (a : Fin 4) : k0_off1 (grid0.coords t) a + (![1, 1, 128, 256] : Fin 4 → ℕ) a ≤ S2x1x128x256.size a := by
  rw [offA t a]
  fin_cases a <;> decide

theorem bx_off (B : Vec Ideal S2x1x128x256 .f32) (o o' : Fin 4 → ℕ) (h : o = o') (i i') : bx B o i = bx B o' i' := by
  subst h
  rfl

theorem bx0 (t : Fin grid0.N) : bx BG (k0_off1 (grid0.coords t)) (inbOff t) = B0 := bx_off _ _ _ (off0 t) _ _

set_option maxHeartbeats 4000000 in
theorem after5A (c : Dev nD) (t : Fin cfg0.N) (h0 : t.val % 32 = 0) :
    (dats m 0 c).after 5 t = PG (OG (QG (iblk m c 0 t)) (KG (iblk m c 2 t) (iblk m c 1 t)) (KG (iblk m c 4 t) (iblk m c 3 t)) B0 B1) := by
  rw [after0_5, outsAt0_A m c t h0]
  frame_out
  simp only [View.readCov_eq_canon', canonQ, canonK, canonV]
  refine (canonP _).trans (congrArg PG ((canonO (QG (iblk m c 0 t)) (KG (iblk m c 2 t) (iblk m c 1 t)) (KG (iblk m c 4 t) (iblk m c 3 t)) _ _).trans ?_))
  exact congrArg₂ (OG (QG (iblk m c 0 t)) (KG (iblk m c 2 t) (iblk m c 1 t)) (KG (iblk m c 4 t) (iblk m c 3 t))) ((bx_congr canonB _ (inbOff t)).trans (bx0 t)) (bx_congr canonB _ _)

set_option maxHeartbeats 4000000 in
theorem after5B (c : Dev nD) (t : Fin cfg0.N) (h0 : ¬t.val % 32 = 0) :
    (dats m 0 c).after 5 t = PG (OG (QG (iblk m c 0 t)) (KG (iblk m c 2 t) (iblk m c 1 t)) (KG (iblk m c 4 t) (iblk m c 3 t)) B0 B1) := by
  rw [after0_5, outsAt0_B m c t h0]
  frame_out
  simp only [View.readCov_eq_canon', canonQ, canonK, canonV, read_unread_whole, bias]
  refine (canonP _).trans (congrArg PG ((canonO (QG (iblk m c 0 t)) (KG (iblk m c 2 t) (iblk m c 1 t)) (KG (iblk m c 4 t) (iblk m c 3 t)) (bx BG (k0_off1 (grid0.coords t)) (inbOff t)) B1).trans ?_))
  exact congrArg (fun b => OG (QG (iblk m c 0 t)) (KG (iblk m c 2 t) (iblk m c 1 t)) (KG (iblk m c 4 t) (iblk m c 3 t)) b B1) (bx0 t)

set_option maxHeartbeats 4000000 in
theorem after6A (c : Dev nD) (t : Fin cfg0.N) (h0 : t.val % 32 = 0) :
    (dats m 0 c).after 6 t = k0_pay2 (F := Ideal) (fun j => LG (QG (iblk m c 0 t)) (KG (iblk m c 2 t) (iblk m c 1 t)) B0 B1 ((Rect.unit (s := S256x128) ![0, 0] ![256, 128] inb_S256x128_S256x128_0_0).idx j)) := by
  rw [after0_6, outsAt0_A m c t h0]
  frame_out
  simp only [View.readCov_eq_canon', canonQ, canonK]
  refine congrArg (k0_pay2 (F := Ideal)) (funext fun j => congrFun ((canonL (QG (iblk m c 0 t)) (KG (iblk m c 2 t) (iblk m c 1 t)) _ _).trans ?_) _)
  exact congrArg₂ (LG (QG (iblk m c 0 t)) (KG (iblk m c 2 t) (iblk m c 1 t))) ((bx_congr canonB _ (inbOff t)).trans (bx0 t)) (bx_congr canonB _ _)

set_option maxHeartbeats 4000000 in
theorem after6B (c : Dev nD) (t : Fin cfg0.N) (h0 : ¬t.val % 32 = 0) :
    (dats m 0 c).after 6 t = k0_pay2 (F := Ideal) (fun j => LG (QG (iblk m c 0 t)) (KG (iblk m c 2 t) (iblk m c 1 t)) B0 B1 ((Rect.unit (s := S256x128) ![0, 0] ![256, 128] inb_S256x128_S256x128_0_0).idx j)) := by
  rw [after0_6, outsAt0_B m c t h0]
  frame_out
  simp only [View.readCov_eq_canon', canonQ, canonK, read_unread_whole, bias]
  refine congrArg (k0_pay2 (F := Ideal)) (funext fun j => congrFun ((canonL (QG (iblk m c 0 t)) (KG (iblk m c 2 t) (iblk m c 1 t)) (bx BG (k0_off1 (grid0.coords t)) (inbOff t)) B1).trans ?_) _)
  exact congrArg (fun b => LG (QG (iblk m c 0 t)) (KG (iblk m c 2 t) (iblk m c 1 t)) b B1) (bx0 t)

end Cert.KernelIdeal.Attn
-- ==== Proof.AttnVal.lean ====
module
public import proofs.«01_k».proof.Proof.AttnAfter
@[expose] public section
set_option maxRecDepth 16384
noncomputable section
open Idealize.ShloMosaic Idealize.ShloMosaic.TcCoe Idealize.SL.Sem
open Idealize.ShloMosaic.Pipeline (Dat)
/-! The blocks a program reads, in the rows of the argument, and the scores and values they give. -/
namespace Cert.KernelIdeal.Attn
open Cert.KernelIdeal Cert.KernelIdeal.Gen Cert.AttnMath

variable (m : (ℓ : Loc nD τ sig) → Buf (Elt Ideal) ℓ)

theorem idx : ∀ t : Fin cfg0.N, win0_0.index t = ![t.val / 16, 0, 0, t.val % 16, 0, 6] ∧ win0_1.index t = ![t.val / 16, 0, 0, t.val % 16, 0, 7]
    ∧ win0_2.index t = ![t.val / 16, 0, 0, t.val % 16, 0, 7] ∧ win0_3.index t = ![t.val / 16, 0, 0, t.val % 16, 0, 8]
    ∧ win0_4.index t = ![t.val / 16, 0, 0, t.val % 16, 0, 8] ∧ win0_5.index t = ![t.val / 16, 0, 0, t.val % 16, 0, 0]
    ∧ win0_6.index t = ![t.val / 16, 0, 0, t.val % 16, 0, 0] := (by decide +kernel : ∀ t : Fin grid0.N, _)

/-- The argument. -/
abbrev xin (c : Dev nD) : (⟨3, ![2, 4096, 9216]⟩ : Shape).Idx → EReal := m ((c : Thread nD τ).loc main_arg0)

theorem batch_lt (t : Fin cfg0.N) : t.val / 16 < 2 := by
  have := lt_of_lt_of_eq t.isLt (show cfg0.N = 32 from N_0)
  omega

/-- The batch a program works on. -/
abbrev bo (t : Fin cfg0.N) : Fin 2 := ⟨t.val / 16, batch_lt t⟩

theorem V_host (c : Dev nD) (b : Fin 2) (s : Fin 16) (a : Fin 1) (r j : Fin 16) (k : Fin 9216) :
    (show FVec Ideal S2x16x1x16x16x9216 .bf16 from V m c main_v4) (ix6 b s a r j k) = xin m c (ix3 b ⟨s.val * 256 + j.val * 16 + r.val, by omega⟩ k) := by
  entry_read
  pointwise
  exact congrArg (xin m c) (congrArg₂ (fun u v => ix3 u v k) (Fin.ext (by show (b.val * 16 + s.val) / 16 = b.val; omega))
    (Fin.ext (by show (b.val * 16 + s.val) % 16 * 256 + j.val * 16 + r.val = s.val * 256 + j.val * 16 + r.val; omega)))

/-- The prepared argument, as an array. -/
theorem host (c : Dev nD) : ∃ W : Vec Ideal S2x16x1x16x16x9216 .bf16, V m c main_v4 = W ∧ ∀ (b : Fin 2) (s : Fin 16) (a : Fin 1) (r j : Fin 16) (k : Fin 9216),
    W (ix6 b s a r j k) = xin m c (ix3 b ⟨s.val * 256 + j.val * 16 + r.val, by omega⟩ k) := by
  obtain ⟨W, hW⟩ : ∃ W : Vec Ideal S2x16x1x16x16x9216 .bf16, V m c main_v4 = W := ⟨_, rfl⟩
  refine ⟨W, hW, fun b s a r j k => ?_⟩
  rw [← V_host m c b s a r j k, ← hW]

theorem read0 (c : Dev nD) (t : Fin cfg0.N) (W : Vec Ideal S2x16x1x16x16x9216 .bf16) (hW : V m c (Pipeline.arrRef spec0 0) = W) (y : S1x16x1x1x16x1024.Idx) :
    (show Vec Ideal S1x16x1x1x16x1024 .bf16 from iblk m c 0 t) y = W (((cfg0.win 0).blk t).view.emb y) := by
  unfold iblk
  rw [hW]
  rfl

theorem at0 (t : Fin cfg0.N) (s j : Fin 16) (k : Fin 1024) :
    ((cfg0.win 0).blk t).view.emb (show S1x16x1x1x16x1024.Idx from ix6 0 s 0 0 j k) = (show S2x16x1x16x16x9216.Idx from ix6 (bo t) s 0 ⟨t.val % 16, by omega⟩ j ⟨6144 + k.val, by omega⟩) := by
  have e := (idx t).1
  blk_ext [e]

theorem blk0 (c : Dev nD) (t : Fin cfg0.N) (s j : Fin 16) (k : Fin 1024) :
    (show Vec Ideal S1x16x1x1x16x1024 .bf16 from iblk m c 0 t) (ix6 0 s 0 0 j k) = rd (xin m c) (bo t) (s.val * 256 + j.val * 16 + t.val % 16) (6144 + k.val) := by
  obtain ⟨W, hW, hx⟩ := host m c
  have e := rd_eq (xin m c) (bo t) (s.val * 256 + j.val * 16 + t.val % 16) (6144 + k.val) (by omega) (by omega)
  exact (read0 m c t W hW _).trans ((congrArg W (at0 t s j k)).trans ((hx _ _ _ _ _ _).trans e.symm))

theorem read1 (c : Dev nD) (t : Fin cfg0.N) (W : Vec Ideal S2x16x1x16x16x9216 .bf16) (hW : V m c (Pipeline.arrRef spec0 1) = W) (y : S1x16x1x1x16x1024.Idx) :
    (show Vec Ideal S1x16x1x1x16x1024 .bf16 from iblk m c 1 t) y = W (((cfg0.win 1).blk t).view.emb y) := by
  unfold iblk
  rw [hW]
  rfl

theorem at1 (t : Fin cfg0.N) (s j : Fin 16) (k : Fin 1024) :
    ((cfg0.win 1).blk t).view.emb (show S1x16x1x1x16x1024.Idx from ix6 0 s 0 0 j k) = (show S2x16x1x16x16x9216.Idx from ix6 (bo t) s 0 ⟨t.val % 16, by omega⟩ j ⟨7168 + k.val, by omega⟩) := by
  have e := (idx t).2.1
  blk_ext [e]

theorem blk1 (c : Dev nD) (t : Fin cfg0.N) (s j : Fin 16) (k : Fin 1024) :
    (show Vec Ideal S1x16x1x1x16x1024 .bf16 from iblk m c 1 t) (ix6 0 s 0 0 j k) = rd (xin m c) (bo t) (s.val * 256 + j.val * 16 + t.val % 16) (7168 + k.val) := by
  obtain ⟨W, hW, hx⟩ := host m c
  have e := rd_eq (xin m c) (bo t) (s.val * 256 + j.val * 16 + t.val % 16) (7168 + k.val) (by omega) (by omega)
  exact (read1 m c t W hW _).trans ((congrArg W (at1 t s j k)).trans ((hx _ _ _ _ _ _).trans e.symm))

theorem read3 (c : Dev nD) (t : Fin cfg0.N) (W : Vec Ideal S2x16x1x16x16x9216 .bf16) (hW : V m c (Pipeline.arrRef spec0 3) = W) (y : S1x16x1x1x16x1024.Idx) :
    (show Vec Ideal S1x16x1x1x16x1024 .bf16 from iblk m c 3 t) y = W (((cfg0.win 3).blk t).view.emb y) := by
  unfold iblk
  rw [hW]
  rfl

theorem at3 (t : Fin cfg0.N) (s j : Fin 16) (k : Fin 1024) :
    ((cfg0.win 3).blk t).view.emb (show S1x16x1x1x16x1024.Idx from ix6 0 s 0 0 j k) = (show S2x16x1x16x16x9216.Idx from ix6 (bo t) s 0 ⟨t.val % 16, by omega⟩ j ⟨8192 + k.val, by omega⟩) := by
  have e := (idx t).2.2.2.1
  blk_ext [e]

theorem blk3 (c : Dev nD) (t : Fin cfg0.N) (s j : Fin 16) (k : Fin 1024) :
    (show Vec Ideal S1x16x1x1x16x1024 .bf16 from iblk m c 3 t) (ix6 0 s 0 0 j k) = rd (xin m c) (bo t) (s.val * 256 + j.val * 16 + t.val % 16) (8192 + k.val) := by
  obtain ⟨W, hW, hx⟩ := host m c
  have e := rd_eq (xin m c) (bo t) (s.val * 256 + j.val * 16 + t.val % 16) (8192 + k.val) (by omega) (by omega)
  exact (read3 m c t W hW _).trans ((congrArg W (at3 t s j k)).trans ((hx _ _ _ _ _ _).trans e.symm))

theorem QG_at (c : Dev nD) (t : Fin cfg0.N) (h : Fin 8) (p : Fin 256) (y : Fin 128) :
    QG (iblk m c 0 t) (ix3 h p y) = rd (xin m c) (bo t) ((p.val / 128 * 128 + p.val % 128) * 16 + t.val % 16) (6144 + h.val * 128 + y.val) := by
  refine (blk0 m c t ⟨p.val / 16, by omega⟩ ⟨p.val % 16, by omega⟩ ⟨h.val * 128 + y.val, by omega⟩).trans ?_
  congr 1
  · show p.val / 16 * 256 + p.val % 16 * 16 + t.val % 16 = _
    omega
  · show 6144 + (h.val * 128 + y.val) = _
    omega

theorem KG_at (c : Dev nD) (t : Fin cfg0.N) (h : Fin 8) (n : ℕ) (k : Fin 256) (y : Fin 128) (hn : n < 2) (hk : n ≠ 0 ∨ 128 ≤ k.val) :
    KG (iblk m c 2 t) (iblk m c 1 t) (ix3 h ⟨n * 128 + k.val, by omega⟩ y) = rd (xin m c) (bo t) ((n * 128 + k.val - 128) * 16 + t.val % 16) (6144 + 1024 + h.val * 128 + y.val) := by
  unfold KG
  rw [dif_neg (by show ¬(n * 128 + k.val < 128); omega)]
  refine (blk1 m c t ⟨(n * 128 + k.val - 128) / 16, by omega⟩ ⟨(n * 128 + k.val - 128) % 16, by omega⟩ ⟨h.val * 128 + y.val, by omega⟩).trans ?_
  congr 1
  · show (n * 128 + k.val - 128) / 16 * 256 + (n * 128 + k.val - 128) % 16 * 16 + t.val % 16 = _
    omega
  · show 7168 + (h.val * 128 + y.val) = _
    omega

theorem VG_at (c : Dev nD) (t : Fin cfg0.N) (h : Fin 8) (n : ℕ) (k : Fin 256) (y : Fin 128) (hn : n < 2) (hk : n ≠ 0 ∨ 128 ≤ k.val) :
    KG (iblk m c 4 t) (iblk m c 3 t) (ix3 h ⟨n * 128 + k.val, by omega⟩ y) = rd (xin m c) (bo t) ((n * 128 + k.val - 128) * 16 + t.val % 16) (6144 + 2048 + h.val * 128 + y.val) := by
  unfold KG
  rw [dif_neg (by show ¬(n * 128 + k.val < 128); omega)]
  refine (blk3 m c t ⟨(n * 128 + k.val - 128) / 16, by omega⟩ ⟨(n * 128 + k.val - 128) % 16, by omega⟩ ⟨h.val * 128 + y.val, by omega⟩).trans ?_
  congr 1
  · show (n * 128 + k.val - 128) / 16 * 256 + (n * 128 + k.val - 128) % 16 * 16 + t.val % 16 = _
    omega
  · show 8192 + (h.val * 128 + y.val) = _
    omega

theorem mask_at (n q k : ℕ) (hn : n < 2) (hq : q < 128) (hk : k < 256) :
    (if n * 128 + q < 128 then B0 else B1) (ix4 0 0 ⟨q, hq⟩ ⟨k, hk⟩) = if seen n q k then (0 : EReal) else ⊥ := by
  have e : (if n * 128 + q < 128 then B0 else B1) (ix4 0 0 ⟨q, hq⟩ ⟨k, hk⟩) = BG (ix4 ⟨n, hn⟩ 0 ⟨q, hq⟩ ⟨k, hk⟩) := by
    have hn' : n = 0 ∨ n = 1 := by omega
    rcases hn' with rfl | rfl
    · rw [if_pos (by omega)]
      refine congrArg BG (funext fun a => Fin.ext ?_)
      fin_cases a <;> simp [Rect.unit, ix4, LoadRect.idx]
    · rw [if_neg (by omega)]
      refine congrArg BG (funext fun a => Fin.ext ?_)
      fin_cases a <;> simp [Rect.unit, ix4, LoadRect.idx]
  rw [e]
  show (if q ≤ k ∧ k ≤ q + 128 ∧ (n = 1 ∨ 128 ≤ k) then (0 : EReal) else ⊥) = _
  refine if_congr ?_ rfl rfl
  unfold seen
  omega

theorem osc_at (c : Dev nD) (t : Fin cfg0.N) (h : Fin 8) (p : Fin 256) (k : Fin 256) :
    osc (QG (iblk m c 0 t)) (KG (iblk m c 2 t) (iblk m c 1 t)) B0 B1 h p k
      = scores (xin m c) (bo t) 6144 16 (t.val % 16) h.val (p.val / 128) (p.val % 128) k := by
  unfold osc scores
  have e : p.val = p.val / 128 * 128 + p.val % 128 := by omega
  have hm := mask_at (p.val / 128) (p.val % 128) k.val (by omega) (by omega) k.isLt
  rw [← e] at hm
  rw [hm]
  by_cases hs : seen (p.val / 128) (p.val % 128) k.val
  · rw [if_pos hs, if_pos hs, add_zero]
    unfold score
    congr 1
    refine Finset.sum_congr rfl fun y _ => ?_
    rw [QG_at, KG_at m c t h (p.val / 128) k y (by omega) hs.2.2]
  · rw [if_neg hs, if_neg hs, EReal.add_bot]

theorem OG_at (c : Dev nD) (t : Fin cfg0.N) (h : Fin 8) (p : Fin 256) (e : Fin 128) :
    OG (QG (iblk m c 0 t)) (KG (iblk m c 2 t) (iblk m c 1 t)) (KG (iblk m c 4 t) (iblk m c 3 t)) B0 B1 (ix3 h p e)
      = attO (scores (xin m c) (bo t) 6144 16 (t.val % 16) h.val (p.val / 128) (p.val % 128)) (vals (xin m c) (bo t) 6144 16 (t.val % 16) h.val (p.val / 128) e.val) := by
  refine attO_congr _ _ _ _ (osc_at m c t h p) fun k hk => ?_
  have hk' : osc (QG (iblk m c 0 t)) (KG (iblk m c 2 t) (iblk m c 1 t)) B0 B1 h p k ≠ ⊥ := hk
  rw [osc_at] at hk'
  have hs : seen (p.val / 128) (p.val % 128) k.val := by
    by_contra hs
    exact hk' (if_neg hs)
  exact VG_at m c t h (p.val / 128) k e (by omega) hs.2.2

theorem LG_at (c : Dev nD) (t : Fin cfg0.N) (p : Fin 256) (l : Fin 128) :
    LG (QG (iblk m c 0 t)) (KG (iblk m c 2 t) (iblk m c 1 t)) B0 B1 (ix2 p l)
      = if l.val < 8 then attL (scores (xin m c) (bo t) 6144 16 (t.val % 16) l.val (p.val / 128) (p.val % 128)) else 0 := by
  unfold LG
  by_cases hl : l.val < 8
  · rw [dif_pos (show ((ix2 p l) 1).val < 8 from hl), if_pos hl]
    exact congrArg attL (funext fun k => osc_at m c t ⟨l.val, hl⟩ p k)
  · rw [dif_neg (show ¬((ix2 p l) 1).val < 8 from hl), if_neg hl]

end Cert.KernelIdeal.Attn
-- ==== Proof.RefStages.lean ====
module
public import proofs.«01_k».proof.Proof.Gen.ReferenceIdeal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
/-! The dilated attention of the reference, stage by stage, and what each stage holds at an index. -/
namespace Cert.ReferenceIdeal.Attn
open Cert.ReferenceIdeal Cert.ReferenceIdeal.Gen Idealize.ShloMosaic.StableHlo

def qb (x : FVec Ideal S2x4096x9216 .f32) : FVec Ideal S2x16x2x128x8x128 .f32 :=
  shapeCast _ (pad S2x16x256x8x128 ![0, 0, 0, 0, 0] ![0, 0, 0, 0, 0] ![0, 0, 0, 0, 0] (transpose S2x16x256x8x128 [0, 2, 1, 3, 4] (shapeCast _ (shapeCast _ (extractStridedSlice S2x4096x1x1x8x128 ![0, 0, 2, 0, 0, 0] (shapeCast _ x shapeCasts_S2x4096x9216_S2x4096x3x3x8x128) slices_S2x4096x3x3x8x128_S2x4096x1x1x8x128_0_0_2_0_0_0) shapeCasts_S2x4096x1x1x8x128_S2x4096x8x128) shapeCasts_S2x4096x8x128_S2x256x16x8x128) transposes_S2x256x16x8x128_S2x16x256x8x128_0_2_1_3_4) (sitofp .f32 (constantI S_ 32 0#32)) pads_S2x16x256x8x128_S2x16x256x8x128_000_000_000_000_000 h_S_) shapeCasts_S2x16x256x8x128_S2x16x2x128x8x128

def kb (x : FVec Ideal S2x4096x9216 .f32) : FVec Ideal S2x16x2x128x8x128 .f32 :=
  shapeCast _ (pad S2x16x256x8x128 ![0, 0, 0, 0, 0] ![0, 0, 0, 0, 0] ![0, 0, 0, 0, 0] (transpose S2x16x256x8x128 [0, 2, 1, 3, 4] (shapeCast _ (shapeCast _ (extractStridedSlice S2x4096x1x1x8x128 ![0, 0, 2, 1, 0, 0] (shapeCast _ x shapeCasts_S2x4096x9216_S2x4096x3x3x8x128) slices_S2x4096x3x3x8x128_S2x4096x1x1x8x128_0_0_2_1_0_0) shapeCasts_S2x4096x1x1x8x128_S2x4096x8x128) shapeCasts_S2x4096x8x128_S2x256x16x8x128) transposes_S2x256x16x8x128_S2x16x256x8x128_0_2_1_3_4) (sitofp .f32 (constantI S_ 32 0#32)) pads_S2x16x256x8x128_S2x16x256x8x128_000_000_000_000_000 h_S_) shapeCasts_S2x16x256x8x128_S2x16x2x128x8x128

def vb (x : FVec Ideal S2x4096x9216 .f32) : FVec Ideal S2x16x2x128x8x128 .f32 :=
  shapeCast _ (pad S2x16x256x8x128 ![0, 0, 0, 0, 0] ![0, 0, 0, 0, 0] ![0, 0, 0, 0, 0] (transpose S2x16x256x8x128 [0, 2, 1, 3, 4] (shapeCast _ (shapeCast _ (extractStridedSlice S2x4096x1x1x8x128 ![0, 0, 2, 2, 0, 0] (shapeCast _ x shapeCasts_S2x4096x9216_S2x4096x3x3x8x128) slices_S2x4096x3x3x8x128_S2x4096x1x1x8x128_0_0_2_2_0_0) shapeCasts_S2x4096x1x1x8x128_S2x4096x8x128) shapeCasts_S2x4096x8x128_S2x256x16x8x128) transposes_S2x256x16x8x128_S2x16x256x8x128_0_2_1_3_4) (sitofp .f32 (constantI S_ 32 0#32)) pads_S2x16x256x8x128_S2x16x256x8x128_000_000_000_000_000 h_S_) shapeCasts_S2x16x256x8x128_S2x16x2x128x8x128

def kk (x : FVec Ideal S2x4096x9216 .f32) : FVec Ideal S2x16x2x256x8x128 .f32 :=
  concatenate S2x16x2x256x8x128 3 [⟨S2x16x2x128x8x128, (pad S2x16x2x128x8x128 ![0, 0, 1, 0, 0, 0] ![0, 0, 0, 0, 0, 0] ![0, 0, 0, 0, 0, 0] (extractStridedSlice S2x16x1x128x8x128 ![0, 0, 0, 0, 0, 0] (kb x) slices_S2x16x2x128x8x128_S2x16x1x128x8x128_0_0_0_0_0_0) (sitofp .f32 (constantI S_ 32 0#32)) pads_S2x16x1x128x8x128_S2x16x2x128x8x128_000_000_100_000_000_000 h_S_)⟩, ⟨S2x16x2x128x8x128, (kb x)⟩] concatenates_S2x16x2x128x8x128_S2x16x2x128x8x128_S2x16x2x256x8x128_d3

def vk (x : FVec Ideal S2x4096x9216 .f32) : FVec Ideal S2x16x2x256x8x128 .f32 :=
  concatenate S2x16x2x256x8x128 3 [⟨S2x16x2x128x8x128, (pad S2x16x2x128x8x128 ![0, 0, 1, 0, 0, 0] ![0, 0, 0, 0, 0, 0] ![0, 0, 0, 0, 0, 0] (extractStridedSlice S2x16x1x128x8x128 ![0, 0, 0, 0, 0, 0] (vb x) slices_S2x16x2x128x8x128_S2x16x1x128x8x128_0_0_0_0_0_0) (sitofp .f32 (constantI S_ 32 0#32)) pads_S2x16x1x128x8x128_S2x16x2x128x8x128_000_000_100_000_000_000 h_S_)⟩, ⟨S2x16x2x128x8x128, (vb x)⟩] concatenates_S2x16x2x128x8x128_S2x16x2x128x8x128_S2x16x2x256x8x128_d3

def msk : IVec S2x16x2x8x128x256 1 :=
  broadcastInDim S2x16x2x8x128x256 ![0, 1, 2, 3, 4, 5] bcast_S1x1x2x1x128x256_S2x16x2x8x128x256_0_1_2_3_4_5 (broadcastInDim S1x1x2x1x128x256 ![2, 4, 5] bcast_S2x128x256_S1x1x2x1x128x256_2_4_5 (andi (broadcastInDim S2x128x256 ![0, 1, 2] bcast_S1x128x256_S2x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S2x128x256 ![0, 1, 2] bcast_S2x1x256_S2x128x256_0_1_2 (ori (broadcastInDim S2x1x256 ![0, 1, 2] bcast_S2x1x1_S2x1x256_0_1_2 (broadcastInDim S2x1x1 ![0] bcast_S2_S2x1x1_0 (cmpi .sgt (iotaInDim S2 32 0) (broadcastInDim S2 ![] bcast_S_S2 (constantI S_ 32 0#32))))) (broadcastInDim S2x1x256 ![0, 1, 2] bcast_S1x1x256_S2x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))

def sc (x : FVec Ideal S2x4096x9216 .f32) : FVec Ideal S2x16x2x8x128x256 .f32 :=
  select msk (mulf (Host.dotGeneral dot_S2x16x2x128x8x128_S2x16x2x256x8x128_S2x16x2x8x128x256_5_5_3_3_0124_0124 none (qb x) (kk x)) (broadcastInDim S2x16x2x8x128x256 ![] bcast_S_S2x16x2x8x128x256 (constant S_ .f32 0x3DB504F3#32))) (broadcastInDim S2x16x2x8x128x256 ![] bcast_S_S2x16x2x8x128x256 (id (constant S_ .f32 0xFF800000#32)))

def mx (x : FVec Ideal S2x4096x9216 .f32) : FVec Ideal S2x16x2x8x128x1 .f32 :=
  broadcastInDim S2x16x2x8x128x1 ![0, 1, 2, 3, 4] bcast_S2x16x2x8x128_S2x16x2x8x128x1_0_1_2_3_4 (Host.reduce FloatOps.maximumf (sc x) (constant S_ .f32 0xFF800000#32) reducesTo_S2x16x2x8x128x256_S2x16x2x8x128_d5 h_S_)

def pe (x : FVec Ideal S2x4096x9216 .f32) : FVec Ideal S2x16x2x8x128x256 .f32 :=
  Host.exp (subf (sc x) (broadcastInDim S2x16x2x8x128x256 ![0, 1, 2, 3, 4, 5] bcast_S2x16x2x8x128x1_S2x16x2x8x128x256_0_1_2_3_4_5 (mx x)))

def ls (x : FVec Ideal S2x4096x9216 .f32) : FVec Ideal S2x16x2x8x128x1 .f32 :=
  broadcastInDim S2x16x2x8x128x1 ![0, 1, 2, 3, 4] bcast_S2x16x2x8x128_S2x16x2x8x128x1_0_1_2_3_4 (Host.reduceAdd (pe x) (constant S_ .f32 0x00000000#32) reducesTo_S2x16x2x8x128x256_S2x16x2x8x128_d5 h_S_)

def oo (x : FVec Ideal S2x4096x9216 .f32) : FVec Ideal S2x16x2x128x8x128 .f32 :=
  Host.divf (transpose S2x16x2x128x8x128 [0, 1, 2, 5, 3, 4] (Host.dotGeneral dot_S2x16x2x256x8x128_S2x16x2x8x128x256_S2x16x2x8x128x128_3_5_5_4_0124_0123 none (vk x) (pe x)) transposes_S2x16x2x8x128x128_S2x16x2x128x8x128_0_1_2_5_3_4) (broadcastInDim S2x16x2x128x8x128 ![0, 1, 2, 3, 4, 5] bcast_S2x16x2x128x8x1_S2x16x2x128x8x128_0_1_2_3_4_5 (transpose S2x16x2x128x8x1 [0, 1, 2, 4, 3, 5] (ls x) transposes_S2x16x2x8x128x1_S2x16x2x128x8x1_0_1_2_4_3_5))

def out (x : FVec Ideal S2x4096x9216 .f32) :=
  transpose S2x16x1x16x16x1024 [0, 1, 3, 4, 2, 5] (shapeCast _ (truncf .bf16 (shapeCast _ (shapeCast _ (transpose S2x256x16x8x128 [0, 2, 1, 3, 4] (shapeCast _ (oo x) shapeCasts_S2x16x2x128x8x128_S2x16x256x8x128) transposes_S2x16x256x8x128_S2x256x16x8x128_0_2_1_3_4) shapeCasts_S2x256x16x8x128_S2x4096x8x128) shapeCasts_S2x4096x8x128_S2x4096x1024) bitsLt_bf16_f32) shapeCasts_S2x4096x1024_S2x16x16x1x16x1024) transposes_S2x16x16x1x16x1024_S2x16x1x16x16x1024_0_1_3_4_2_5

def lse (x : FVec Ideal S2x4096x9216 .f32) :=
  transpose S2x16x1x16x16x128 [0, 1, 3, 4, 2, 5] (shapeCast _ (pad S2x4096x128 ![0, 0, 0] ![0, 0, 120] ![0, 0, 0] (shapeCast _ (transpose S2x256x16x8 [0, 2, 1, 3] (shapeCast _ (transpose S2x16x2x128x8 [0, 1, 2, 4, 3] (shapeCast _ (addf (mx x) (Host.log (ls x))) shapeCasts_S2x16x2x8x128x1_S2x16x2x8x128) transposes_S2x16x2x8x128_S2x16x2x128x8_0_1_2_4_3) shapeCasts_S2x16x2x128x8_S2x16x256x8) transposes_S2x16x256x8_S2x256x16x8_0_2_1_3) shapeCasts_S2x256x16x8_S2x4096x8) (sitofp .f32 (constantI S_ 32 0#32)) pads_S2x4096x8_S2x4096x128_000_000_01200 h_S_) shapeCasts_S2x4096x128_S2x16x16x1x16x128) transposes_S2x16x16x1x16x128_S2x16x1x16x16x128_0_1_3_4_2_5

theorem out_eq (m : (ℓ : Loc nD τ sig) → Buf (Elt Ideal) ℓ) (c : Dev nD) : Value.res_main_v83 m c = out (m ((c.tc : Thread nD τ).loc main_arg0)) := rfl
theorem lse_eq (m : (ℓ : Loc nD τ sig) → Buf (Elt Ideal) ℓ) (c : Dev nD) : Value.res_main_v86 m c = lse (m ((c.tc : Thread nD τ).loc main_arg0)) := rfl

end Cert.ReferenceIdeal.Attn
-- ==== Proof.RefRead.lean ====
module
public import Idealize.ShloMosaic.Lib.StackMember
public import proofs.«01_k».proof.Proof.RefStages
public import proofs.«01_k».proof.Proof.AttnMath
public import proofs.«01_k».proof.Proof.AttnBias
@[expose] public section
set_option maxRecDepth 16384
noncomputable section
open Idealize.ShloMosaic Idealize.ShloMosaic.TcCoe Idealize.SL.Sem
/-! What each stage of the reference holds at an index. -/
namespace Cert.ReferenceIdeal.Attn
open Cert.ReferenceIdeal Cert.ReferenceIdeal.Gen Idealize.ShloMosaic.StableHlo Cert.AttnMath

theorem fiber6 (h : S2x16x2x8x128x256.ReducesTo [5] S2x16x2x8x128) (b : Fin 2) (r : Fin 16) (n : Fin 2) (hd : Fin 8) (t : Fin 128) (i : S2x16x2x8x128x256.Idx) :
    h.drop i = ix5 b r n hd t ↔ ∃ k : Fin 256, (ix6 b r n hd t k : S2x16x2x8x128x256.Idx) = i := by
  constructor
  · intro e
    refine ⟨i 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

variable (x : FVec Ideal S2x4096x9216 .f32)

theorem qb_at (b : Fin 2) (r : Fin 16) (n : Fin 2) (t : Fin 128) (h : Fin 8) (e : Fin 128) :
    qb x (ix6 b r n t h e) = rd x b ((n.val * 128 + t.val) * 16 + r.val) (6144 + h.val * 128 + e.val) := by
  rw [rd_eq x b _ _ (by omega) (by omega)]
  pointwise [qb]
  rw [dif_pos (by omega)]

theorem kb_at (b : Fin 2) (r : Fin 16) (n : Fin 2) (t : Fin 128) (h : Fin 8) (e : Fin 128) :
    kb x (ix6 b r n t h e) = rd x b ((n.val * 128 + t.val) * 16 + r.val) (7168 + h.val * 128 + e.val) := by
  rw [rd_eq x b _ _ (by omega) (by omega)]
  pointwise [kb]
  rw [dif_pos (by omega)]

theorem vb_at (b : Fin 2) (r : Fin 16) (n : Fin 2) (t : Fin 128) (h : Fin 8) (e : Fin 128) :
    vb x (ix6 b r n t h e) = rd x b ((n.val * 128 + t.val) * 16 + r.val) (8192 + h.val * 128 + e.val) := by
  rw [rd_eq x b _ _ (by omega) (by omega)]
  pointwise [vb]
  rw [dif_pos (by omega)]

theorem kk_at (b : Fin 2) (r : Fin 16) (n : Fin 2) (k : Fin 256) (h : Fin 8) (e : Fin 128) (hk : n.val ≠ 0 ∨ 128 ≤ k.val) :
    kk x (ix6 b r n k h e) = rd x b ((n.val * 128 + k.val - 128) * 16 + r.val) (7168 + h.val * 128 + e.val) := by
  pointwise [kk, kb_at]
  split_ifs with h1 h2
  · congr 1; omega
  · omega
  · congr 1; omega

theorem vk_at (b : Fin 2) (r : Fin 16) (n : Fin 2) (k : Fin 256) (h : Fin 8) (e : Fin 128) (hk : n.val ≠ 0 ∨ 128 ≤ k.val) :
    vk x (ix6 b r n k h e) = rd x b ((n.val * 128 + k.val - 128) * 16 + r.val) (8192 + h.val * 128 + e.val) := by
  pointwise [vk, vb_at]
  split_ifs with h1 h2
  · congr 1; omega
  · omega
  · congr 1; omega

theorem prev : ∀ n : Fin 2, IntOp.cmpi .sgt (BitVec.ofNat 32 n.val) 0#32 = if n.val ≠ 0 then 1#1 else 0#1 := by decide +kernel

theorem bits (p1 p2 p3 : Prop) [Decidable p1] [Decidable p2] [Decidable p3] [Decidable (p1 ∧ (p2 ∨ p3))] :
    IntOp.andi (if p1 then 1#1 else 0#1) (IntOp.ori (if p2 then 1#1 else 0#1) (if p3 then 1#1 else 0#1)) = if p1 ∧ (p2 ∨ p3) then 1#1 else 0#1 := by
  by_cases h1 : p1 <;> by_cases h2 : p2 <;> by_cases h3 : p3 <;> simp [h1, h2, h3, IntOp.andi, IntOp.ori]

theorem msk_at (b : Fin 2) (r : Fin 16) (n : Fin 2) (t : Fin 128) (k : Fin 256) (h : Fin 8) :
    msk (ix6 b r n h t k) = if seen n.val t.val k.val then 1#1 else 0#1 := by
  pointwise [msk]
  have e := Cert.KernelIdeal.Attn.band t k
  rw [show IntOp.addi (BitVec.ofNat 32 t.val) 128#32 = IntOp.addi 128#32 (BitVec.ofNat 32 t.val) from BitVec.add_comm _ _, e, prev, Cert.KernelIdeal.Attn.here]
  unfold seen
  rw [bits]
  exact if_congr and_assoc rfl rfl

theorem select_one {α : Type} (a b : α) : Scalar.select 1#1 a b = a := rfl
theorem select_zero {α : Type} (a b : α) : Scalar.select 0#1 a b = b := rfl

theorem dot_at (p : FVec Ideal S2x16x2x128x8x128 .f32) (q : FVec Ideal S2x16x2x256x8x128 .f32) (b : Fin 2) (r : Fin 16) (n : Fin 2) (t : Fin 128) (k : Fin 256) (h : Fin 8) :
    Host.dotGeneral dot_S2x16x2x128x8x128_S2x16x2x256x8x128_S2x16x2x8x128x256_5_5_3_3_0124_0124 none p q (ix6 b r n h t k) = ∑ e : Fin 128, p (ix6 b r n t h e) * q (ix6 b r n k h e) := by
  show FloatOps.dotGeneral _ none _ p q (ix6 b r n h t k) = _
  rw [Ideal.dotGeneral_apply, ← Equiv.sum_comp (ValueIdx.contrEquiv1 dot_S2x16x2x128x8x128_S2x16x2x256x8x128_S2x16x2x8x128x256_5_5_3_3_0124_0124 128 rfl rfl).symm]
  refine Finset.sum_congr rfl fun c _ => ?_
  have c3 := ValueIdx.contrEquiv1_symm_val dot_S2x16x2x128x8x128_S2x16x2x256x8x128_S2x16x2x8x128x256_5_5_3_3_0124_0124 128 rfl rfl c
  have l3 : (dot_S2x16x2x128x8x128_S2x16x2x256x8x128_S2x16x2x8x128x256_5_5_3_3_0124_0124).lhsIdx (ix6 b r n h t k) ((ValueIdx.contrEquiv1 _ 128 rfl rfl).symm c) = ix6 b r n t h c := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact c3
  have r3 : (dot_S2x16x2x128x8x128_S2x16x2x256x8x128_S2x16x2x8x128x256_5_5_3_3_0124_0124).rhsIdx (ix6 b r n h t k) ((ValueIdx.contrEquiv1 _ 128 rfl rfl).symm c) = ix6 b r n k h c := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact c3
  rw [l3, r3]

theorem sc_at0 (y : FVec Ideal S2x16x2x8x128x256 .f32) (b : Fin 2) (r : Fin 16) (n : Fin 2) (t : Fin 128) (k : Fin 256) (h : Fin 8) :
   select msk (mulf y (broadcastInDim S2x16x2x8x128x256 ![] bcast_S_S2x16x2x8x128x256 (constant S_ .f32 0x3DB504F3#32))) (broadcastInDim S2x16x2x8x128x256 ![] bcast_S_S2x16x2x8x128x256 (id (constant S_ FTy.f32 4286578688#32))) (ix6 b r n h t k)
     = Scalar.select (if seen n.val t.val k.val then 1#1 else 0#1) (y (ix6 b r n h t k) * Ideal.ofBits FTy.f32 1035273459#32) (Ideal.ofBits FTy.f32 4286578688#32) := by
  rw [← msk_at b r n t k h]
  rfl

theorem sc_at (b : Fin 2) (r : Fin 16) (n : Fin 2) (t : Fin 128) (k : Fin 256) (h : Fin 8) :
    sc x (ix6 b r n h t k) = scores x b 6144 16 r h n t k := by
  unfold sc
  rw [sc_at0, dot_at]
  unfold scores
  by_cases h1 : seen n.val t.val k.val
  · rw [if_pos h1, if_pos h1, select_one]
    unfold score
    refine congrArg (fun y : EReal => y * Ideal.ofBits FTy.f32 1035273459#32) (Finset.sum_congr rfl fun e _ => ?_)
    rw [qb_at, kk_at x _ _ _ _ _ _ h1.2.2]
  · rw [if_neg h1, if_neg h1, select_zero, neg_inf]

theorem col_at (y : FVec Ideal S2x16x2x8x128 .f32) (b : Fin 2) (r : Fin 16) (n : Fin 2) (t : Fin 128) (h : Fin 8) :
    broadcastInDim S2x16x2x8x128x1 ![0, 1, 2, 3, 4] bcast_S2x16x2x8x128_S2x16x2x8x128x1_0_1_2_3_4 y (ix6 b r n h t 0) = y (ix5 b r n h t) := by
  pointwise

theorem mx_at (b : Fin 2) (r : Fin 16) (n : Fin 2) (t : Fin 128) (h : Fin 8) :
    mx x (ix6 b r n h t 0) = smax (scores x b 6144 16 r h n t) := by
  unfold mx
  rw [col_at, Host.reduce_eq_fold]
  refine (Finset.fold_filter_eq_fold_of_fiber _ _ (fun k : Fin 256 => (ix6 b r n h t k : S2x16x2x8x128x256.Idx)) (fun _ _ e => congrFun e 5) (fiber6 _ b r n h t) _ _).trans ?_
  unfold smax
  simp only [sc_at]
  rw [← neg_inf]
  rfl

theorem pe_at (b : Fin 2) (r : Fin 16) (n : Fin 2) (t : Fin 128) (k : Fin 256) (h : Fin 8) :
    pe x (ix6 b r n h t k) = wt (scores x b 6144 16 r h n t) k := by
  pointwise [pe, sc_at, mx_at]
  rfl

theorem ls_at (b : Fin 2) (r : Fin 16) (n : Fin 2) (t : Fin 128) (h : Fin 8) :
    ls x (ix6 b r n h t 0) = wsum (scores x b 6144 16 r h n t) := by
  unfold ls
  rw [col_at]
  refine (congrArg (_ + ·) (Finset.sum_filter_eq_sum_of_fiber _ (fun k : Fin 256 => (ix6 b r n h t k : S2x16x2x8x128x256.Idx)) (fun _ _ e => congrFun e 5) (fiber6 reducesTo_S2x16x2x8x128x256_S2x16x2x8x128_d5 b r n h t) (pe x))).trans ?_
  unfold wsum
  simp only [pe_at]
  refine (congrArg (fun y : EReal => y + _) (?_ : _ = (0 : EReal))).trans (zero_add _)
  exact (by simp [Ideal.ofBits, Ideal.ieee] : Ideal.ofBits FTy.f32 0#32 = 0)

theorem oo_at (b : Fin 2) (r : Fin 16) (n : Fin 2) (t : Fin 128) (h : Fin 8) (e : Fin 128) :
    oo x (ix6 b r n t h e) = attO (scores x b 6144 16 r h n t) (vals x b 6144 16 r h n e) := by
  pointwise [oo, pe_at, ls_at]
  rw [← attO_congr _ _ (fun k => vk x (ix6 b r n k h e)) _ (fun _ => rfl)]
  · unfold attO
    simp only [mul_comm]
  · intro k hk
    refine vk_at x b r n k h e ?_
    by_contra hc
    exact hk (if_neg fun hs => hc hs.2.2)

theorem a1_at (y : FVec Ideal S2x16x2x128x8x128 .f32) (b : Fin 2) (r : Fin 16) (s : Fin 256) (h : Fin 8) (e : Fin 128) :
    shapeCast S2x16x256x8x128 y shapeCasts_S2x16x2x128x8x128_S2x16x256x8x128 (ix5 b r s h e) = y (ix6 b r ⟨s.val / 128, by omega⟩ ⟨s.val % 128, by omega⟩ h e) := by
  pointwise

theorem a2_at (y : FVec Ideal S2x16x256x8x128 .f32) (b : Fin 2) (r : Fin 16) (s : Fin 256) (h : Fin 8) (e : Fin 128) :
    transpose S2x256x16x8x128 [0, 2, 1, 3, 4] y transposes_S2x16x256x8x128_S2x256x16x8x128_0_2_1_3_4 (ix5 b s r h e) = y (ix5 b r s h e) := by
  pointwise

theorem a3_at (y : FVec Ideal S2x256x16x8x128 .f32) (b : Fin 2) (n : Fin 4096) (h : Fin 8) (e : Fin 128) :
    shapeCast S2x4096x8x128 y shapeCasts_S2x256x16x8x128_S2x4096x8x128 (ix4 b n h e) = y (ix5 b ⟨n.val / 16, by omega⟩ ⟨n.val % 16, by omega⟩ h e) := by
  pointwise

theorem a4_at (y : FVec Ideal S2x4096x8x128 .f32) (b : Fin 2) (n : Fin 4096) (c : Fin 1024) :
    shapeCast S2x4096x1024 y shapeCasts_S2x4096x8x128_S2x4096x1024 (ix3 b n c) = y (ix4 b n ⟨c.val / 128, by omega⟩ ⟨c.val % 128, by omega⟩) := by
  pointwise

theorem a5_at (y : FVec Ideal S2x4096x1024 .bf16) (b : Fin 2) (s : Fin 16) (r : Fin 16) (j : Fin 16) (c : Fin 1024) (a : Fin 1) :
    shapeCast S2x16x16x1x16x1024 y shapeCasts_S2x4096x1024_S2x16x16x1x16x1024 (ix6 b s j a r c) = y (ix3 b ⟨s.val * 256 + j.val * 16 + r.val, by omega⟩ c) := by
  pointwise

theorem a6_at (y : FVec Ideal S2x16x16x1x16x1024 .bf16) (b : Fin 2) (s : Fin 16) (r : Fin 16) (j : Fin 16) (c : Fin 1024) (a : Fin 1) :
    transpose S2x16x1x16x16x1024 [0, 1, 3, 4, 2, 5] y transposes_S2x16x16x1x16x1024_S2x16x1x16x16x1024_0_1_3_4_2_5 (ix6 b s a r j c) = y (ix6 b s j a r c) := by
  obtain rfl : a = 0 := Subsingleton.elim _ _
  pointwise

theorem b0_at (y : FVec Ideal S2x16x2x8x128x1 .f32) (b : Fin 2) (r : Fin 16) (n : Fin 2) (h : Fin 8) (t : Fin 128) :
    shapeCast S2x16x2x8x128 y shapeCasts_S2x16x2x8x128x1_S2x16x2x8x128 (ix5 b r n h t) = y (ix6 b r n h t 0) := by
  pointwise

theorem b1_at (y : FVec Ideal S2x16x2x8x128 .f32) (b : Fin 2) (r : Fin 16) (n : Fin 2) (h : Fin 8) (t : Fin 128) :
    transpose S2x16x2x128x8 [0, 1, 2, 4, 3] y transposes_S2x16x2x8x128_S2x16x2x128x8_0_1_2_4_3 (ix5 b r n t h) = y (ix5 b r n h t) := by
  pointwise

theorem b2_at (y : FVec Ideal S2x16x2x128x8 .f32) (b : Fin 2) (r : Fin 16) (s : Fin 256) (h : Fin 8) :
    shapeCast S2x16x256x8 y shapeCasts_S2x16x2x128x8_S2x16x256x8 (ix4 b r s h) = y (ix5 b r ⟨s.val / 128, by omega⟩ ⟨s.val % 128, by omega⟩ h) := by
  pointwise

theorem b3_at (y : FVec Ideal S2x16x256x8 .f32) (b : Fin 2) (r : Fin 16) (s : Fin 256) (h : Fin 8) :
    transpose S2x256x16x8 [0, 2, 1, 3] y transposes_S2x16x256x8_S2x256x16x8_0_2_1_3 (ix4 b s r h) = y (ix4 b r s h) := by
  pointwise

theorem b4_at (y : FVec Ideal S2x256x16x8 .f32) (b : Fin 2) (n : Fin 4096) (h : Fin 8) :
    shapeCast S2x4096x8 y shapeCasts_S2x256x16x8_S2x4096x8 (ix3 b n h) = y (ix4 b ⟨n.val / 16, by omega⟩ ⟨n.val % 16, by omega⟩ h) := by
  pointwise

theorem b5_at (y : FVec Ideal S2x4096x8 .f32) (b : Fin 2) (n : Fin 4096) (l : Fin 128) :
    pad S2x4096x128 ![0, 0, 0] ![0, 0, 120] ![0, 0, 0] y (sitofp .f32 (constantI S_ 32 0#32)) pads_S2x4096x8_S2x4096x128_000_000_01200 h_S_ (ix3 b n l) = if h : l.val < 8 then y (ix3 b n ⟨l.val, h⟩) else (0 : EReal) := by
  pointwise
  rw [show (FloatOps.sitofp FTy.f32 0#32 : Ideal .f32) = (0 : EReal) from (by norm_num : (((0#32 : BitVec 32).toInt : ℝ) : EReal) = 0)]

theorem b6_at (y : FVec Ideal S2x4096x128 .f32) (b : Fin 2) (s : Fin 16) (r : Fin 16) (j : Fin 16) (c : Fin 128) (a : Fin 1) :
    shapeCast S2x16x16x1x16x128 y shapeCasts_S2x4096x128_S2x16x16x1x16x128 (ix6 b s j a r c) = y (ix3 b ⟨s.val * 256 + j.val * 16 + r.val, by omega⟩ c) := by
  pointwise

theorem b7_at (y : FVec Ideal S2x16x16x1x16x128 .f32) (b : Fin 2) (s : Fin 16) (r : Fin 16) (j : Fin 16) (c : Fin 128) (a : Fin 1) :
    transpose S2x16x1x16x16x128 [0, 1, 3, 4, 2, 5] y transposes_S2x16x16x1x16x128_S2x16x1x16x16x128_0_1_3_4_2_5 (ix6 b s a r j c) = y (ix6 b s j a r c) := by
  obtain rfl : a = 0 := Subsingleton.elim _ _
  pointwise

theorem row_div (s r j : ℕ) (hr : r < 16) : (s * 256 + j * 16 + r) / 16 = s * 16 + j := by omega
theorem row_mod (s r j : ℕ) (hr : r < 16) : (s * 256 + j * 16 + r) % 16 = r := by omega

theorem out_at (b : Fin 2) (s : Fin 16) (r : Fin 16) (j : Fin 16) (c : Fin 1024) (a : Fin 1) :
    out x (ix6 b s a r j c) = attO (scores x b 6144 16 r (c.val / 128) ((s.val * 16 + j.val) / 128) ((s.val * 16 + j.val) % 128))
      (vals x b 6144 16 r (c.val / 128) ((s.val * 16 + j.val) / 128) (c.val % 128)) := by
  unfold out
  rw [a6_at, a5_at]
  rw [show ∀ (y : FVec Ideal S2x4096x1024 .f32) i, truncf .bf16 y bitsLt_bf16_f32 i = y i from fun _ _ => rfl, a4_at]
  rw [a3_at, a2_at, a1_at, oo_at]
  dsimp only
  rw [row_div _ _ _ r.isLt, row_mod _ _ _ r.isLt]

theorem lse_at (b : Fin 2) (s : Fin 16) (r : Fin 16) (j : Fin 16) (c : Fin 128) (a : Fin 1) :
    lse x (ix6 b s a r j c) = if c.val < 8 then attL (scores x b 6144 16 r c.val ((s.val * 16 + j.val) / 128) ((s.val * 16 + j.val) % 128)) else 0 := by
  unfold lse
  rw [b7_at, b6_at, b5_at]
  by_cases h : c.val < 8
  · rw [dif_pos h, if_pos h, b4_at, b3_at, b2_at, b1_at, b0_at]
    rw [show ∀ (p q : FVec Ideal S2x16x2x8x128x1 .f32) i, addf p (Host.log q) i = p i + Ideal.log (q i) from fun _ _ _ => rfl, mx_at, ls_at]
    dsimp only
    rw [row_div _ _ _ r.isLt, row_mod _ _ _ r.isLt]
    rfl
  · rw [dif_neg h, if_neg h]

end Cert.ReferenceIdeal.Attn
-- ==== Proof.AttnFinal.lean ====
module
public import proofs.«01_k».proof.Proof.AttnVal
public import proofs.«01_k».proof.Proof.RefRead
@[expose] public section
set_option maxRecDepth 16384
noncomputable section
open Idealize.ShloMosaic Idealize.ShloMosaic.TcCoe Idealize.SL.Sem
open Idealize.ShloMosaic.Pipeline (Dat)
/-! The attention call leaves the two results of the reference. -/
namespace Cert.KernelIdeal.Attn
open Cert.KernelIdeal Cert.KernelIdeal.Gen Cert.AttnMath

variable (m : (ℓ : Loc nD τ sig) → Buf (Elt Ideal) ℓ)

theorem after5 (c : Dev nD) (t : Fin cfg0.N) :
    (dats m 0 c).after 5 t = PG (OG (QG (iblk m c 0 t)) (KG (iblk m c 2 t) (iblk m c 1 t)) (KG (iblk m c 4 t) (iblk m c 3 t)) B0 B1) := by
  by_cases h : t.val % 32 = 0
  · exact after5A m c t h
  · exact after5B m c t h

theorem after6 (c : Dev nD) (t : Fin cfg0.N) :
    (dats m 0 c).after 6 t = k0_pay2 (F := Ideal) (fun j => LG (QG (iblk m c 0 t)) (KG (iblk m c 2 t) (iblk m c 1 t)) B0 B1 ((Rect.unit (s := S256x128) ![0, 0] ![256, 128] inb_S256x128_S256x128_0_0).idx j)) := by
  by_cases h : t.val % 32 = 0
  · exact after6A m c t h
  · exact after6B m c t h

theorem at5 (t : Fin cfg0.N) (s j : Fin 16) (k : Fin 1024) :
    ((cfg0.win 5).blk t).view.emb (show S1x16x1x1x16x1024.Idx from ix6 0 s 0 0 j k) = (show S2x16x1x16x16x1024.Idx from ix6 (bo t) s 0 ⟨t.val % 16, by omega⟩ j k) := by
  have e := (idx t).2.2.2.2.2.1
  blk_ext [e]

theorem at6 (t : Fin cfg0.N) (s j : Fin 16) (k : Fin 128) :
    ((cfg0.win 6).blk t).view.emb (show S1x16x1x1x16x128.Idx from ix6 0 s 0 0 j k) = (show S2x16x1x16x16x128.Idx from ix6 (bo t) s 0 ⟨t.val % 16, by omega⟩ j k) := by
  have e := (idx t).2.2.2.2.2.2
  blk_ext [e]

theorem pay2_at (G : Vec Ideal S256x128 .f32) (s j : Fin 16) (l : Fin 128) :
    k0_pay2 (F := Ideal) (fun i => G ((Rect.unit (s := S256x128) ![0, 0] ![256, 128] inb_S256x128_S256x128_0_0).idx i)) (ix6 0 s 0 0 j l) = G (ix2 ⟨s.val * 16 + j.val, by omega⟩ l) := by
  pointwise [k0_pay2]
  blk_ext

theorem point5 (c : Dev nD) (t : Fin cfg0.N) (s j : Fin 16) (k : Fin 1024) :
    PG (OG (QG (iblk m c 0 t)) (KG (iblk m c 2 t) (iblk m c 1 t)) (KG (iblk m c 4 t) (iblk m c 3 t)) B0 B1) (ix6 0 s 0 0 j k)
      = Cert.ReferenceIdeal.Attn.out (xin m c) (ix6 (bo t) s 0 ⟨t.val % 16, by omega⟩ j k) :=
  (OG_at m c t ⟨k.val / 128, by omega⟩ ⟨s.val * 16 + j.val, by omega⟩ ⟨k.val % 128, by omega⟩).trans
    (Cert.ReferenceIdeal.Attn.out_at (xin m c) (bo t) s ⟨t.val % 16, by omega⟩ j k 0).symm

theorem point6 (c : Dev nD) (t : Fin cfg0.N) (s j : Fin 16) (l : Fin 128) :
    k0_pay2 (F := Ideal) (fun j => LG (QG (iblk m c 0 t)) (KG (iblk m c 2 t) (iblk m c 1 t)) B0 B1 ((Rect.unit (s := S256x128) ![0, 0] ![256, 128] inb_S256x128_S256x128_0_0).idx j)) (ix6 0 s 0 0 j l)
      = Cert.ReferenceIdeal.Attn.lse (xin m c) (ix6 (bo t) s 0 ⟨t.val % 16, by omega⟩ j l) :=
  (pay2_at _ s j l).trans ((LG_at m c t ⟨s.val * 16 + j.val, by omega⟩ l).trans
    (Cert.ReferenceIdeal.Attn.lse_at (xin m c) (bo t) s ⟨t.val % 16, by omega⟩ j l 0).symm)

theorem ix_out (y : S1x16x1x1x16x1024.Idx) : y = ix6 0 (y 1) 0 0 (y 4) (y 5) := by
  blk_ext

theorem ix_lse (y : S1x16x1x1x16x128.Idx) : y = ix6 0 (y 1) 0 0 (y 4) (y 5) := by
  blk_ext

/-- The attention result is the reference's. -/
theorem arr5 (c : Dev nD) : (dats m 0 c).arrAt 5 cfg0.N = Cert.ReferenceIdeal.Attn.out (xin m c) := by
  refine (dats m 0 c).arrAt_eq_of_covers 5 _ (by decide +kernel) fun t hf y => ?_
  blk_simp
  rw [after5]
  obtain ⟨s, j, k, rfl⟩ : ∃ (s j : Fin 16) (k : Fin 1024), y = (show S1x16x1x1x16x1024.Idx from ix6 0 s 0 0 j k) := ⟨_, _, _, ix_out y⟩
  rw [at5]
  exact point5 m c t s j k

/-- The log-sums are the reference's. -/
theorem arr6 (c : Dev nD) : (dats m 0 c).arrAt 6 cfg0.N = Cert.ReferenceIdeal.Attn.lse (xin m c) := by
  refine (dats m 0 c).arrAt_eq_of_covers 6 _ (by decide +kernel) fun t hf y => ?_
  blk_simp
  rw [after6]
  obtain ⟨s, j, k, rfl⟩ : ∃ (s j : Fin 16) (k : Fin 128), y = (show S1x16x1x1x16x128.Idx from ix6 0 s 0 0 j k) := ⟨_, _, _, ix_lse y⟩
  rw [at6]
  exact point6 m c t s j k

end Cert.KernelIdeal.Attn
-- ==== Proof.FfnRuns.lean ====
/- What the runs of the feed-forward call share: the arrays at its region, each window's block at a point, the cases of its conditionals in closed form. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 8 % 9 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 72 = 0)

abbrev cond0_1 (i : grid0.Coords) : Prop := k0_cond2 i = 1#1
theorem hcond0_1 : ∀ t : Fin cfg0.N, cond0_1 (grid0.coords t) ↔ (t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55) :=
  (by decide +kernel : ∀ t : Fin grid0.N, cond0_1 (grid0.coords t) ↔ (t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55))

abbrev cond0_2 (i : grid0.Coords) : Prop := k0_cond3 i = 1#1
theorem hcond0_2 : ∀ t : Fin cfg0.N, cond0_2 (grid0.coords t) ↔ (t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63) :=
  (by decide +kernel : ∀ t : Fin grid0.N, cond0_2 (grid0.coords t) ↔ (t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63))

abbrev cond0_3 (i : grid0.Coords) : Prop := k0_cond4 i = 1#1
theorem hcond0_3 : ∀ t : Fin cfg0.N, cond0_3 (grid0.coords t) ↔ 64 ≤ t.val :=
  (by decide +kernel : ∀ t : Fin grid0.N, cond0_3 (grid0.coords t) ↔ 64 ≤ t.val)

abbrev cond0_4 (i : grid0.Coords) : Prop := k0_cond5 i = 1#1
theorem hcond0_4 : ∀ t : Fin cfg0.N, ¬cond0_4 (grid0.coords t) :=
  (by decide +kernel : ∀ t : Fin grid0.N, ¬cond0_4 (grid0.coords t))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
abbrev conds0_B (i : grid0.Coords) : Prop := ¬cond0_0 i ∧ cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
abbrev conds0_C (i : grid0.Coords) : Prop := ¬cond0_0 i ∧ ¬cond0_1 i ∧ cond0_2 i ∧ ¬cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
abbrev conds0_D (i : grid0.Coords) : Prop := ¬cond0_0 i ∧ ¬cond0_1 i ∧ ¬cond0_2 i ∧ cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
theorem liveAt0_6_A : ∀ t : Fin cfg0.N, cond0_0 (grid0.coords t) → cond0_1 (grid0.coords t) → ¬cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_A (grid0.coords t) → cfg0.idle 6 (grid0.coords t) = false) t ⟨h0, h1, h2, h3, h4⟩
theorem liveAt0_6_B : ∀ t : Fin cfg0.N, ¬cond0_0 (grid0.coords t) → cond0_1 (grid0.coords t) → ¬cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_B (grid0.coords t) → cfg0.idle 6 (grid0.coords t) = false) t ⟨h0, h1, h2, h3, h4⟩
theorem liveAt0_6_C : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
theorem liveAt0_6_D : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩

abbrev VO0_6 : View sig .tc .vmem S128x2048 .f32 := (Memref.whole cc0_stg6_0 : Memref sig .tc .vmem S128x2048 .f32).view
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
abbrev scM0_0 : Memref sig .tc .vmem S1024x2048 .f32 := Memref.whole cc0_scratch0
abbrev scM0_1 : Memref sig .tc .vmem S1024x2048 .f32 := Memref.whole cc0_scratch1
abbrev scM0_2 : Memref sig .tc .vmem S16x128x128 .f32 := Memref.whole cc0_scratch2
abbrev VS0_0 : View sig .tc .vmem S1024x2048 .f32 := scM0_0.view
abbrev VS0_1 : View sig .tc .vmem S1024x2048 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FfnIdeal.Gen

end
-- ==== Proof.FfnRunA.lean ====
/- The body at the first point. -/
module

public import proofs.«01_k».proof.Proof.FfnRuns

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) :
    Σ' (L6 : List (View.Piece (Elt F) S128x2048 .f32)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _, _; isplitr; swap; · iexact HS2
    ipureintro; rfl

end Cert.FfnIdeal.Gen

end
-- ==== Proof.FfnRunB.lean ====
/- The body at a point of an even row tile. -/
module

public import proofs.«01_k».proof.Proof.FfnRunA

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) :
    Σ' (L6 : List (View.Piece (Elt F) S128x2048 .f32)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1) ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexact HS1
    iexists _, _; isplitr; swap; · iexact HS2
    ipureintro; rfl

end Cert.FfnIdeal.Gen

end
-- ==== Proof.FfnRunC.lean ====
/- The body at a point of an odd row tile. -/
module

public import proofs.«01_k».proof.Proof.FfnRunB

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) :
    Σ' (L6 : List (View.Piece (Elt F) S128x2048 .f32)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_eq_skeleton]; unfold cc0_ffn_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexact HS0
    isplitl [HS1]; · iexists _; iexact HS1
    iexists _, _; isplitr; swap; · iexact HS2
    ipureintro; rfl

end Cert.FfnIdeal.Gen

end
-- ==== Proof.FfnRunD.lean ====
/- The body at a point of the last step. -/
module

public import proofs.«01_k».proof.Proof.FfnRunC

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_D (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : ¬cond0_2 i) (hc3 : cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) :
    Σ' (L6 : List (View.Piece (Elt F) S128x2048 .f32)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_ffn_eq_skeleton]; unfold cc0_ffn_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexact HS1
    iexists _, _; isplitr; swap; · iexact HS2
    ipureintro; rfl

end Cert.FfnIdeal.Gen

end
-- ==== Proof.FfnFrame.lean ====
/- What the scratch and the result block hold point by point, and the run of the feed-forward call. -/
module

public import proofs.«01_k».proof.Proof.FfnRunD
public import Idealize.ShloMosaic.Lib.Claim

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).1 S128x2048.size (by sl_kernel_rfl) y

def out0_A_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) : Vec F S128x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).1)

theorem scover0_A_0 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (y : S1024x2048.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).2.1 S1024x2048.size (by sl_kernel_rfl) y

def sout0_A_0 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) : Vec F S1024x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).2.1)

theorem scover0_A_1 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (y : S1024x2048.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).2.2.1 (by sl_whole_mem) y

def sout0_A_1 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) : Vec F S1024x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 hc2 hc3 hc4 x0 x1 x2 x3 x4 x5).2.2.1)

theorem cover0_B_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1 S128x2048.size (by sl_kernel_rfl) y

def out0_B_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S128x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1)

theorem scover0_B_0 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) (y : S1024x2048.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.1 S1024x2048.size (by sl_kernel_rfl) y

def sout0_B_0 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S1024x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.1)

def sout0_B_1 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : cond0_1 i) (hc2 : ¬cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S1024x2048 .f32 :=
  arg10.view.read (Elt F) (arg10.view.writes (Elt F) (harg10.unread xs1) (kernelRun0_B c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.2.1)

theorem cover0_C_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1 S128x2048.size (by sl_kernel_rfl) y

def out0_C_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S128x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1)

def sout0_C_0 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S1024x2048 .f32 :=
  arg9.view.read (Elt F) (arg9.view.writes (Elt F) (harg9.unread xs0) (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.1)

theorem scover0_C_1 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) (y : S1024x2048.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.2.1 S1024x2048.size (by sl_kernel_rfl) y

def sout0_C_1 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : cond0_2 i) (hc3 : ¬cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S1024x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.2.1)

theorem cover0_D_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : ¬cond0_2 i) (hc3 : cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) (y : S128x2048.Idx) :
    ∃ pc ∈ (kernelRun0_D c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1 S128x2048.size (by sl_kernel_rfl) y

def out0_D_6 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : ¬cond0_2 i) (hc3 : cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S128x2048 .f32 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).1)

def sout0_D_0 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : ¬cond0_2 i) (hc3 : cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S1024x2048 .f32 := xs0

def sout0_D_1 (c : Dev nD) (i : grid0.Coords) (arg2 : Memref sig .tc .vmem S128x2048 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S128x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S16x128x128 .f32) (harg11 : arg11.IsWhole) (hc0 : ¬cond0_0 i) (hc1 : ¬cond0_1 i) (hc2 : ¬cond0_2 i) (hc3 : cond0_3 i) (hc4 : ¬cond0_4 i)
    (x0 : Vec F S128x2048 .f32) (x1 : Vec F S1024x2048 .bf16) (x2 : Vec F S2048x1024 .bf16) (x3 : Vec F S1024x2048 .bf16) (x4 : Vec F S1x1x2048 .f32) (x5 : Vec F S1x1x2048 .f32) (xs0 : Vec F S1024x2048 .f32) (xs1 : Vec F S1024x2048 .f32) : Vec F S1024x2048 .f32 :=
  arg10.view.read (Elt F) (arg10.view.writes (Elt F) (harg10.unread xs1) (kernelRun0_D c i arg2 harg2 arg3 harg3 arg4 harg4 arg5 harg5 arg6 harg6 arg7 harg7 arg8 harg8 arg9 harg9 arg10 harg10 arg11 harg11 hc0 hc1 hc2 hc3 hc4 x0 x1 x2 x3 x4 x5 xs0 xs1).2.2.1)

def outsAt0 (c : Dev nD) : (n : ℕ) → n < cfg0.N → Vec F S128x2048 .f32 × Vec F S1024x2048 .f32 × Vec F S1024x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (hcond0_4 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (hcond0_4 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (hcond0_4 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 72 = 0 then
      if h1 : ((n + 1) % 72 = 0 ∨ (n + 1) % 72 = 1 ∨ (n + 1) % 72 = 2 ∨ (n + 1) % 72 = 3 ∨ (n + 1) % 72 = 4 ∨ (n + 1) % 72 = 5 ∨ (n + 1) % 72 = 6 ∨ (n + 1) % 72 = 7 ∨ (n + 1) % 72 = 16 ∨ (n + 1) % 72 = 17 ∨ (n + 1) % 72 = 18 ∨ (n + 1) % 72 = 19 ∨ (n + 1) % 72 = 20 ∨ (n + 1) % 72 = 21 ∨ (n + 1) % 72 = 22 ∨ (n + 1) % 72 = 23 ∨ (n + 1) % 72 = 32 ∨ (n + 1) % 72 = 33 ∨ (n + 1) % 72 = 34 ∨ (n + 1) % 72 = 35 ∨ (n + 1) % 72 = 36 ∨ (n + 1) % 72 = 37 ∨ (n + 1) % 72 = 38 ∨ (n + 1) % 72 = 39 ∨ (n + 1) % 72 = 48 ∨ (n + 1) % 72 = 49 ∨ (n + 1) % 72 = 50 ∨ (n + 1) % 72 = 51 ∨ (n + 1) % 72 = 52 ∨ (n + 1) % 72 = 53 ∨ (n + 1) % 72 = 54 ∨ (n + 1) % 72 = 55) then
        if h2 : ((n + 1) % 72 = 8 ∨ (n + 1) % 72 = 9 ∨ (n + 1) % 72 = 10 ∨ (n + 1) % 72 = 11 ∨ (n + 1) % 72 = 12 ∨ (n + 1) % 72 = 13 ∨ (n + 1) % 72 = 14 ∨ (n + 1) % 72 = 15 ∨ (n + 1) % 72 = 24 ∨ (n + 1) % 72 = 25 ∨ (n + 1) % 72 = 26 ∨ (n + 1) % 72 = 27 ∨ (n + 1) % 72 = 28 ∨ (n + 1) % 72 = 29 ∨ (n + 1) % 72 = 30 ∨ (n + 1) % 72 = 31 ∨ (n + 1) % 72 = 40 ∨ (n + 1) % 72 = 41 ∨ (n + 1) % 72 = 42 ∨ (n + 1) % 72 = 43 ∨ (n + 1) % 72 = 44 ∨ (n + 1) % 72 = 45 ∨ (n + 1) % 72 = 46 ∨ (n + 1) % 72 = 47 ∨ (n + 1) % 72 = 56 ∨ (n + 1) % 72 = 57 ∨ (n + 1) % 72 = 58 ∨ (n + 1) % 72 = 59 ∨ (n + 1) % 72 = 60 ∨ (n + 1) % 72 = 61 ∨ (n + 1) % 72 = 62 ∨ (n + 1) % 72 = 63) then
          False.elim (by have hN : n + 1 < 72 := lt_of_lt_of_eq hn (show cfg0.N = 72 from N_0); omega)
        else
          if h3 : 64 ≤ (n + 1) then
            False.elim (by have hN : n + 1 < 72 := lt_of_lt_of_eq hn (show cfg0.N = 72 from N_0); omega)
          else
            (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 72 := lt_of_lt_of_eq hn (show cfg0.N = 72 from N_0); omega)
    else
      if h1 : ((n + 1) % 72 = 0 ∨ (n + 1) % 72 = 1 ∨ (n + 1) % 72 = 2 ∨ (n + 1) % 72 = 3 ∨ (n + 1) % 72 = 4 ∨ (n + 1) % 72 = 5 ∨ (n + 1) % 72 = 6 ∨ (n + 1) % 72 = 7 ∨ (n + 1) % 72 = 16 ∨ (n + 1) % 72 = 17 ∨ (n + 1) % 72 = 18 ∨ (n + 1) % 72 = 19 ∨ (n + 1) % 72 = 20 ∨ (n + 1) % 72 = 21 ∨ (n + 1) % 72 = 22 ∨ (n + 1) % 72 = 23 ∨ (n + 1) % 72 = 32 ∨ (n + 1) % 72 = 33 ∨ (n + 1) % 72 = 34 ∨ (n + 1) % 72 = 35 ∨ (n + 1) % 72 = 36 ∨ (n + 1) % 72 = 37 ∨ (n + 1) % 72 = 38 ∨ (n + 1) % 72 = 39 ∨ (n + 1) % 72 = 48 ∨ (n + 1) % 72 = 49 ∨ (n + 1) % 72 = 50 ∨ (n + 1) % 72 = 51 ∨ (n + 1) % 72 = 52 ∨ (n + 1) % 72 = 53 ∨ (n + 1) % 72 = 54 ∨ (n + 1) % 72 = 55) then
        if h2 : ((n + 1) % 72 = 8 ∨ (n + 1) % 72 = 9 ∨ (n + 1) % 72 = 10 ∨ (n + 1) % 72 = 11 ∨ (n + 1) % 72 = 12 ∨ (n + 1) % 72 = 13 ∨ (n + 1) % 72 = 14 ∨ (n + 1) % 72 = 15 ∨ (n + 1) % 72 = 24 ∨ (n + 1) % 72 = 25 ∨ (n + 1) % 72 = 26 ∨ (n + 1) % 72 = 27 ∨ (n + 1) % 72 = 28 ∨ (n + 1) % 72 = 29 ∨ (n + 1) % 72 = 30 ∨ (n + 1) % 72 = 31 ∨ (n + 1) % 72 = 40 ∨ (n + 1) % 72 = 41 ∨ (n + 1) % 72 = 42 ∨ (n + 1) % 72 = 43 ∨ (n + 1) % 72 = 44 ∨ (n + 1) % 72 = 45 ∨ (n + 1) % 72 = 46 ∨ (n + 1) % 72 = 47 ∨ (n + 1) % 72 = 56 ∨ (n + 1) % 72 = 57 ∨ (n + 1) % 72 = 58 ∨ (n + 1) % 72 = 59 ∨ (n + 1) % 72 = 60 ∨ (n + 1) % 72 = 61 ∨ (n + 1) % 72 = 62 ∨ (n + 1) % 72 = 63) then
          False.elim (by have hN : n + 1 < 72 := lt_of_lt_of_eq hn (show cfg0.N = 72 from N_0); omega)
        else
          if h3 : 64 ≤ (n + 1) then
            False.elim (by have hN : n + 1 < 72 := lt_of_lt_of_eq hn (show cfg0.N = 72 from N_0); omega)
          else
            (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
      else
        if h2 : ((n + 1) % 72 = 8 ∨ (n + 1) % 72 = 9 ∨ (n + 1) % 72 = 10 ∨ (n + 1) % 72 = 11 ∨ (n + 1) % 72 = 12 ∨ (n + 1) % 72 = 13 ∨ (n + 1) % 72 = 14 ∨ (n + 1) % 72 = 15 ∨ (n + 1) % 72 = 24 ∨ (n + 1) % 72 = 25 ∨ (n + 1) % 72 = 26 ∨ (n + 1) % 72 = 27 ∨ (n + 1) % 72 = 28 ∨ (n + 1) % 72 = 29 ∨ (n + 1) % 72 = 30 ∨ (n + 1) % 72 = 31 ∨ (n + 1) % 72 = 40 ∨ (n + 1) % 72 = 41 ∨ (n + 1) % 72 = 42 ∨ (n + 1) % 72 = 43 ∨ (n + 1) % 72 = 44 ∨ (n + 1) % 72 = 45 ∨ (n + 1) % 72 = 46 ∨ (n + 1) % 72 = 47 ∨ (n + 1) % 72 = 56 ∨ (n + 1) % 72 = 57 ∨ (n + 1) % 72 = 58 ∨ (n + 1) % 72 = 59 ∨ (n + 1) % 72 = 60 ∨ (n + 1) % 72 = 61 ∨ (n + 1) % 72 = 62 ∨ (n + 1) % 72 = 63) then
          if h3 : 64 ≤ (n + 1) then
            False.elim (by have hN : n + 1 < 72 := lt_of_lt_of_eq hn (show cfg0.N = 72 from N_0); omega)
          else
            (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
        else
          if h3 : 64 ≤ (n + 1) then
            (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (hcond0_4 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
          else
            False.elim (by have hN : n + 1 < 72 := lt_of_lt_of_eq hn (show cfg0.N = 72 from N_0); omega)

theorem outsAt0_A (c : Dev nD) (t : Fin cfg0.N) (h0 : t.val % 72 = 0) (h1 : (t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55)) (h2 : ¬(t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)) (h3 : ¬64 ≤ t.val) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans ((dif_neg h3).trans rfl)))

theorem outsAt0_B (c : Dev nD) (t : Fin cfg0.N) (h0 : ¬t.val % 72 = 0) (h1 : (t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55)) (h2 : ¬(t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)) (h3 : ¬64 ≤ t.val) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt0_C (c : Dev nD) (t : Fin cfg0.N) (h0 : ¬t.val % 72 = 0) (h1 : ¬(t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55)) (h2 : (t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)) (h3 : ¬64 ≤ t.val) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt0_D (c : Dev nD) (t : Fin cfg0.N) (h0 : ¬t.val % 72 = 0) (h1 : ¬(t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55)) (h2 : ¬(t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)) (h3 : 64 ≤ t.val) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (hcond0_4 t) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 72 = 0
  · by_cases h1 : (t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55)
    · by_cases h2 : (t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)
      · exfalso; omega
      · by_cases h3 : 64 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h)) (fun h => h3 ((hcond0_3 t).mp h)) (hcond0_4 t)], after0_6]
          by_cases hz : t.val = 0
          · rw [PhiS_castSucc m c t, PhiS_zero m c _ _ hz, PhiA0_eq]
            rw [outsAt0_A m c t h0 h1 h2 h3]
            unfold out0_A_6 sout0_A_0 sout0_A_1; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_A c (grid0.coords t) _ _ _ _ _ _ _ _ _ _ _ _ _ _ _ _ _ _ _ _ ((hcond0_0 t).mpr h0) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t)).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            iintro ⟨H0, H1, H2, H3, H4, H5, ⟨%e6, H6⟩, ⟨%es0, HS0⟩, ⟨%es1, HS1⟩, HS2⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _ _ _)
          · exfalso; have hN : t.val < 72 := lt_of_lt_of_eq t.isLt (show cfg0.N = 72 from N_0); omega
    · exfalso; omega
  · by_cases h1 : (t.val % 72 = 0 ∨ t.val % 72 = 1 ∨ t.val % 72 = 2 ∨ t.val % 72 = 3 ∨ t.val % 72 = 4 ∨ t.val % 72 = 5 ∨ t.val % 72 = 6 ∨ t.val % 72 = 7 ∨ t.val % 72 = 16 ∨ t.val % 72 = 17 ∨ t.val % 72 = 18 ∨ t.val % 72 = 19 ∨ t.val % 72 = 20 ∨ t.val % 72 = 21 ∨ t.val % 72 = 22 ∨ t.val % 72 = 23 ∨ t.val % 72 = 32 ∨ t.val % 72 = 33 ∨ t.val % 72 = 34 ∨ t.val % 72 = 35 ∨ t.val % 72 = 36 ∨ t.val % 72 = 37 ∨ t.val % 72 = 38 ∨ t.val % 72 = 39 ∨ t.val % 72 = 48 ∨ t.val % 72 = 49 ∨ t.val % 72 = 50 ∨ t.val % 72 = 51 ∨ t.val % 72 = 52 ∨ t.val % 72 = 53 ∨ t.val % 72 = 54 ∨ t.val % 72 = 55)
    · by_cases h2 : (t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)
      · exfalso; omega
      · by_cases h3 : 64 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h)) (hcond0_4 t)], after0_6]
          by_cases hz : t.val = 0
          · exfalso; have hN : t.val < 72 := lt_of_lt_of_eq t.isLt (show cfg0.N = 72 from N_0); omega
          · rw [PhiS_castSucc m c t, PhiS_pos m c _ _ hz]
            rw [outsAt0_B m c t h0 h1 h2 h3]
            unfold out0_B_6 sout0_B_0 sout0_B_1; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (hcond0_4 t) (iblk m c 0 t) (iblk m c 1 t) (iblk m c 2 t) (iblk m c 3 t) (iblk m c 4 t) (iblk m c 5 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            iintro ⟨H0, H1, H2, H3, H4, H5, ⟨%e6, H6⟩, ⟨%es0, HS0⟩, HS1, HS2⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _)
                isplitl [HS1]
                · unfold owns; iexists _; isplitr
                  swap; · iexact HS1
                  ipureintro; rfl
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _ _ _ _ _)
    · by_cases h2 : (t.val % 72 = 8 ∨ t.val % 72 = 9 ∨ t.val % 72 = 10 ∨ t.val % 72 = 11 ∨ t.val % 72 = 12 ∨ t.val % 72 = 13 ∨ t.val % 72 = 14 ∨ t.val % 72 = 15 ∨ t.val % 72 = 24 ∨ t.val % 72 = 25 ∨ t.val % 72 = 26 ∨ t.val % 72 = 27 ∨ t.val % 72 = 28 ∨ t.val % 72 = 29 ∨ t.val % 72 = 30 ∨ t.val % 72 = 31 ∨ t.val % 72 = 40 ∨ t.val % 72 = 41 ∨ t.val % 72 = 42 ∨ t.val % 72 = 43 ∨ t.val % 72 = 44 ∨ t.val % 72 = 45 ∨ t.val % 72 = 46 ∨ t.val % 72 = 47 ∨ t.val % 72 = 56 ∨ t.val % 72 = 57 ∨ t.val % 72 = 58 ∨ t.val % 72 = 59 ∨ t.val % 72 = 60 ∨ t.val % 72 = 61 ∨ t.val % 72 = 62 ∨ t.val % 72 = 63)
      · by_cases h3 : 64 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2) (fun h => h3 ((hcond0_3 t).mp h)) (hcond0_4 t)], after0_6]
          by_cases hz : t.val = 0
          · exfalso; have hN : t.val < 72 := lt_of_lt_of_eq t.isLt (show cfg0.N = 72 from N_0); omega
          · rw [PhiS_castSucc m c t, PhiS_pos m c _ _ hz]
            rw [outsAt0_C m c t h0 h1 h2 h3]
            unfold out0_C_6 sout0_C_0 sout0_C_1; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (hcond0_4 t) (iblk m c 0 t) (iblk m c 1 t) (iblk m c 2 t) (iblk m c 3 t) (iblk m c 4 t) (iblk m c 5 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            iintro ⟨H0, H1, H2, H3, H4, H5, ⟨%e6, H6⟩, HS0, ⟨%es1, HS1⟩, HS2⟩
            isplitl [HS0 HS1 HS2 Hg]
            · isplitl [HS0 HS1 HS2]
              · isplitl [HS0]
                · unfold owns; iexists _; isplitr
                  swap; · iexact HS0
                  ipureintro; rfl
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _ _ _ _)
      · by_cases h3 : 64 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) (fun h => h2 ((hcond0_2 t).mp h)) ((hcond0_3 t).mpr h3) (hcond0_4 t)], after0_6]
          by_cases hz : t.val = 0
          · exfalso; have hN : t.val < 72 := lt_of_lt_of_eq t.isLt (show cfg0.N = 72 from N_0); omega
          · rw [PhiS_castSucc m c t, PhiS_pos m c _ _ hz]
            rw [outsAt0_D m c t h0 h1 h2 h3]
            unfold out0_D_6 sout0_D_0 sout0_D_1; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (hcond0_4 t) (iblk m c 0 t) (iblk m c 1 t) (iblk m c 2 t) (iblk m c 3 t) (iblk m c 4 t) (iblk m c 5 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            iintro ⟨H0, H1, H2, H3, H4, H5, ⟨%e6, H6⟩, HS0, HS1, HS2⟩
            isplitl [HS0 HS1 HS2 Hg]
            · isplitl [HS0 HS1 HS2]
              · isplitl [HS0]
                · iexact HS0
                isplitl [HS1]
                · unfold owns; iexists _; isplitr
                  swap; · iexact HS1
                  ipureintro; rfl
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_D_6 c _ _ _ _ _ _ _ _ _ _ _ _ _ _ _ _ _ _ _ _ _ _ _ _ _ _ _ _ _ _ _ _ _ _)
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 72 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnIdeal.Gen

end
-- ==== Proof.FfnBits.lean ====
module
public import proofs.«01_k».proof.Defs
public import proofs.«01_k».proof.Proof.FfnFrame
public import proofs.«01_k».proof.Proof.Gen.Ffn
@[expose] public section
set_option maxRecDepth 16384
set_option maxHeartbeats 1000000
noncomputable section
open Idealize.ShloMosaic Idealize.ShloMosaic.TcCoe Idealize.SL.Sem
/-! The feed-forward call at the machine's numbers is the same program: its frame is the one run's. -/
namespace Cert.Ffn.Same

set_option backward.isDefEq.respectTransparency.types false in
theorem bodies : (Cert.Ffn.defs₀ (F := Bits)) = (Cert.FfnIdeal.defs₀ (F := Bits)) := by
  unfold Cert.Ffn.defs₀ Cert.FfnIdeal.defs₀
  refine congrArg Defs.onTc (funext fun p => funext fun a => ?_)
  match p, a with
  | ⟨0, _⟩, (t, s) => rfl

set_option backward.isDefEq.respectTransparency.types false in
theorem mains : (Cert.Ffn.main (F := Bits)) = (Cert.FfnIdeal.main (F := Bits)) := rfl

set_option backward.isDefEq.respectTransparency.types false in
theorem tables : (Cert.Ffn.defs (F := Bits)) = (Cert.FfnIdeal.defs (F := Bits)) := by
  unfold Cert.Ffn.defs Cert.FfnIdeal.defs
  rw [bodies]
  rfl

set_option backward.isDefEq.respectTransparency.types false in
theorem frame : Cert.quiescent_Ffn := by
  intro m ρ _
  rw [mains, tables]
  exact Cert.FfnIdeal.Gen.frame (F := Bits) m ρ

end Cert.Ffn.Same
-- ==== Proof.FfnMath.lean ====
module
public import Idealize.ShloMosaic.Lib.Pipeline.ValueKit
public import Idealize.ShloMosaic.Lib.Pointwise
@[expose] public section
noncomputable section
open Idealize.ShloMosaic
/-! The feed-forward part of one row over the extended reals. -/
namespace Cert.FfnMath

/-- The mean of a row. -/
def mean (p : Fin 2048 → EReal) : EReal := Ideal.div (∑ k, p k) (Ideal.ofBits .f32 0x45000000#32)

/-- The variance of a row. -/
def var (p : Fin 2048 → EReal) : EReal := mean fun k => (p k - mean p) * (p k - mean p)

/-- The norm of a row with its gain and offset. -/
def ln (p g b : Fin 2048 → EReal) (k : Fin 2048) : EReal :=
  (p k - mean p) * Ideal.rsqrt (var p + Ideal.ofBits .f32 0x3727C5AC#32) * g k + b k

/-- The residual sum. -/
def pre (x h : EReal) : EReal := Ideal.ofBits .f32 0x3FD744FD#32 * x + h

/-- A hidden unit: the squared positive part of a product. -/
def hid (x w : Fin 2048 → EReal) : EReal := max (∑ k, x k * w k) 0 * max (∑ k, x k * w k) 0

end Cert.FfnMath
-- ==== Proof.FfnPay.lean ====
module
public import proofs.«01_k».proof.Proof.FfnMath
public import proofs.«01_k».proof.Proof.Gen.FfnIdeal.Skeleton
@[expose] public section
set_option maxRecDepth 16384
noncomputable section
open Idealize.ShloMosaic Idealize.ShloMosaic.TcCoe Idealize.SL.Sem
/-! What the feed-forward kernel stores, at an index. -/
namespace Cert.FfnIdeal.Val
open Cert.FfnIdeal Cert.FfnIdeal.Gen Cert.FfnMath

/-- One tile's share of a hidden-to-output product. -/
def part (X : Vec Ideal S1024x2048 .bf16) (W1 : Vec Ideal S2048x1024 .bf16) (W2 : Vec Ideal S1024x2048 .bf16) (r : Fin 1024) (d : Fin 2048) : EReal :=
  ∑ k : Fin 1024, hid (fun e => X (ix2 r e)) (fun e => W1 (ix2 e k)) * W2 (ix2 k d)

theorem pay1_at (r : Fin 1024) (d : Fin 2048) : k0_pay1 (F := Ideal) (ix2 r d) = 0 := by
  pointwise [k0_pay1]

theorem pay2_at (r : Fin 1024) (d : Fin 2048) : k0_pay2 (F := Ideal) (ix2 r d) = 0 := by
  pointwise [k0_pay2]

theorem pay6_at (r : Fin 128) (d : Fin 2048) : k0_pay6 (F := Ideal) (ix2 r d) = 0 := by
  pointwise [k0_pay6]

theorem pay8_at (r : Fin 128) (d : Fin 2048) : k0_pay8 (F := Ideal) (ix2 r d) = 0 := by
  pointwise [k0_pay8]

theorem pay10_at (r : Fin 128) (d : Fin 2048) : k0_pay10 (F := Ideal) (ix2 r d) = 0 := by
  pointwise [k0_pay10]

theorem pay3_at (X : Vec Ideal S1024x2048 .bf16) (W1 : Vec Ideal S2048x1024 .bf16) (A : Vec Ideal S1024x2048 .f32) (W2 : Vec Ideal S1024x2048 .bf16) (r : Fin 1024) (d : Fin 2048) :
    k0_pay3 (F := Ideal) X W1 A W2 (ix2 r d) = A (ix2 r d) + part X W1 W2 r d := by
  pointwise [k0_pay3, part, hid]

theorem pay4_at (X : Vec Ideal S1024x2048 .bf16) (W1 : Vec Ideal S2048x1024 .bf16) (A : Vec Ideal S1024x2048 .f32) (W2 : Vec Ideal S1024x2048 .bf16) (r : Fin 1024) (d : Fin 2048) :
    k0_pay4 (F := Ideal) X W1 A W2 (ix2 r d) = A (ix2 r d) + part X W1 W2 r d := by
  pointwise [k0_pay4, part, hid]

/-- The finished rows. -/
def fin (x : Vec Ideal S128x2048 .f32) (A : Vec Ideal S128x2048 .f32) (g b : Vec Ideal S1x1x2048 .f32) (r : Fin 128) (d : Fin 2048) : EReal :=
  ln (fun k => pre (x (ix2 r k)) (A (ix2 r k))) (fun k => g (ix3 0 0 k)) (fun k => b (ix3 0 0 k)) d

theorem pay5_at (x A : Vec Ideal S128x2048 .f32) (g b : Vec Ideal S1x1x2048 .f32) (r : Fin 128) (d : Fin 2048) :
    k0_pay5 (F := Ideal) x A g b (ix2 r d) = fin x A g b r d := by
  pointwise [k0_pay5, fin, ln, var, mean, pre]

theorem pay7_at (x A : Vec Ideal S128x2048 .f32) (g b : Vec Ideal S1x1x2048 .f32) (r : Fin 128) (d : Fin 2048) :
    k0_pay7 (F := Ideal) x A g b (ix2 r d) = fin x A g b r d := by
  pointwise [k0_pay7, fin, ln, var, mean, pre]

theorem pay9_at (x A : Vec Ideal S128x2048 .f32) (g b : Vec Ideal S1x1x2048 .f32) (r : Fin 128) (d : Fin 2048) :
    k0_pay9 (F := Ideal) x A g b (ix2 r d) = fin x A g b r d := by
  pointwise [k0_pay9, fin, ln, var, mean, pre]

end Cert.FfnIdeal.Val
-- ==== Proof.FfnStep.lean ====
module
public import Idealize.ShloMosaic.Lib.WritesUnit
public import proofs.«01_k».proof.Proof.FfnPay
public import proofs.«01_k».proof.Proof.FfnFrame
@[expose] public section
set_option maxRecDepth 16384
noncomputable section
open Idealize.ShloMosaic Idealize.ShloMosaic.TcCoe Idealize.SL.Sem
open Idealize.ShloMosaic.Pipeline (Dat)
/-! What one point of the feed-forward call leaves, over what the point before left. -/
namespace Cert.FfnIdeal.Val
open Cert.FfnIdeal Cert.FfnIdeal.Gen Cert.FfnMath

variable (m : (ℓ : Loc nD τ sig) → Buf (Elt Ideal) ℓ)

theorem t_lt (t : Fin cfg0.N) : t.val < 72 := lt_of_lt_of_eq t.isLt (show cfg0.N = 72 from N_0)

theorem even_iff : ∀ t : Fin cfg0.N, cond0_1 (grid0.coords t) ↔ (t.val / 8 % 2 = 0 ∧ t.val < 64) :=
  (by decide +kernel : ∀ t : Fin grid0.N, cond0_1 (grid0.coords t) ↔ (t.val / 8 % 2 = 0 ∧ t.val < 64))

theorem odd_iff : ∀ t : Fin cfg0.N, cond0_2 (grid0.coords t) ↔ (t.val / 8 % 2 = 1 ∧ t.val < 64) :=
  (by decide +kernel : ∀ t : Fin grid0.N, cond0_2 (grid0.coords t) ↔ (t.val / 8 % 2 = 1 ∧ t.val < 64))

/-- What the two sums and the output block hold after the point before. -/
abbrev prv (c : Dev nD) (t : Fin cfg0.N) := outsAt0 m c (t.val - 1) (Nat.lt_of_le_of_lt (Nat.sub_le _ _) t.isLt)

theorem offs1 : ∀ t : Fin cfg0.N, k0_off1 (grid0.coords t) = ![128 * (t.val % 8), 0] :=
  (by decide +kernel : ∀ t : Fin grid0.N, k0_off1 (grid0.coords t) = ![128 * (t.val % 8), 0])

theorem offs2 : ∀ t : Fin cfg0.N, k0_off2 (grid0.coords t) = ![128 * (t.val % 8), 0] :=
  (by decide +kernel : ∀ t : Fin grid0.N, k0_off2 (grid0.coords t) = ![128 * (t.val % 8), 0])

theorem offs3 : ∀ t : Fin cfg0.N, k0_off3 (grid0.coords t) = ![128 * (t.val % 8), 0] :=
  (by decide +kernel : ∀ t : Fin grid0.N, k0_off3 (grid0.coords t) = ![128 * (t.val % 8), 0])

/-- The rows of the previous tile's sum that a point finishes. -/
def rows (t : Fin cfg0.N) (S : Vec Ideal S1024x2048 .f32) : Vec Ideal S128x2048 .f32 := fun y =>
  S (ix2 ⟨128 * (t.val % 8) + (y 0).val, by have : (y 0).val < 128 := (y 0).isLt; omega⟩ (y 1))

/-- The previous tile's sum with the finished rows cleared. -/
def clr (t : Fin cfg0.N) (S : Vec Ideal S1024x2048 .f32) (r : Fin 1024) (d : Fin 2048) : EReal :=
  if 128 * (t.val % 8) ≤ r.val ∧ r.val < 128 * (t.val % 8) + 128 then 0 else S (ix2 r d)

theorem idx_off {off : Fin 2 → ℕ} {o : ℕ} (e : off = ![o, 0]) (inb : ∀ a : Fin 2, off a + S128x2048.size a ≤ S1024x2048.size a) (y : S128x2048.Idx) (a : Fin 2) :
    ((Rect.unit (s := S1024x2048) off S128x2048.size inb).idx y a).val = (![o, 0] : Fin 2 → ℕ) a + (y a).val := by
  subst e
  exact congrArg (_ + ·) (Nat.one_mul _)

theorem all6 (y : S128x2048.Idx) : k0_pay6 (F := Ideal) y = 0 := by
  pointwise [k0_pay6]

theorem all8 (y : S128x2048.Idx) : k0_pay8 (F := Ideal) y = 0 := by
  pointwise [k0_pay8]

theorem all10 (y : S128x2048.Idx) : k0_pay10 (F := Ideal) y = 0 := by
  pointwise [k0_pay10]

theorem all2 (y : S1024x2048.Idx) : k0_pay2 (F := Ideal) y = 0 := by
  pointwise [k0_pay2]

theorem canon_zero (y : S1024x2048.Idx) : View.canon (Val := Elt Ideal) (s := S1024x2048) (e := .f32)
    [⟨Rect.unit ![0, 0] ![1024, 2048] inb_S1024x2048_S1024x2048_0_0, k0_pay2 (F := Ideal)⟩] y = 0 := by
  canon_tiles x h
  exact all2 _

theorem canon_clr {off : Fin 2 → ℕ} (inb : ∀ a : Fin 2, off a + (![128, 2048] : Fin 2 → ℕ) a ≤ S1024x2048.size a) (w : (Rect.unit (s := S1024x2048) off ![128, 2048] inb).shape.Idx → Elt Ideal .f32)
    (hw : ∀ x, w x = (0 : EReal)) (y : S1024x2048.Idx) : View.canon (Val := Elt Ideal) (s := S1024x2048) (e := .f32)
    [⟨Rect.unit off ![128, 2048] inb, w⟩, ⟨Rect.unit ![0, 0] ![1024, 2048] inb_S1024x2048_S1024x2048_0_0, k0_pay2 (F := Ideal)⟩] y = (0 : EReal) := by
  by_cases hy : y ∈ (Rect.unit (s := S1024x2048) off ![128, 2048] inb).set
  · obtain ⟨x, rfl⟩ := LoadRect.exists_idx_of_mem (Rect.unit (s := S1024x2048) off ![128, 2048] inb).toLoadRect hy
    exact (View.canon_cons_emb (Rect.unit (s := S1024x2048) off ![128, 2048] inb) w _ x).trans (hw x)
  · exact (View.canon_cons_of_not_mem (⟨Rect.unit off ![128, 2048] inb, w⟩ : View.Piece (Elt Ideal) S1024x2048 .f32) _ hy).trans (canon_zero y)

theorem read_clr {κ : Kind} {sp : Space} (v : View sig κ sp S1024x2048 .f32) (f : v.ty.Contents (Elt Ideal)) (S : Vec Ideal S1024x2048 .f32) (hS : v.read (Elt Ideal) f = S) (t : Fin cfg0.N) {off : Fin 2 → ℕ} (e : off = ![128 * (t.val % 8), 0]) (inb : ∀ a : Fin 2, off a + (![128, 2048] : Fin 2 → ℕ) a ≤ S1024x2048.size a)
    (w : (Rect.unit (s := S1024x2048) off ![128, 2048] inb).shape.Idx → Elt Ideal .f32) (hw : ∀ x, w x = (0 : EReal)) (r : Fin 1024) (d : Fin 2048) :
    v.read (Elt Ideal) (v.writes (Elt Ideal) f [⟨Rect.unit off ![128, 2048] inb, w⟩]) (ix2 r d) = clr t S r d := by
  unfold clr
  by_cases hr : 128 * (t.val % 8) ≤ r.val ∧ r.val < 128 * (t.val % 8) + 128
  · rw [if_pos hr]
    refine (View.read_writes_cons_unit_of_mem v f inb w [] (ix2 r d) (ix2 (⟨r.val - 128 * (t.val % 8), by omega⟩ : Fin 128) d) e ?_).trans (hw _)
    intro a
    match a with
    | ⟨0, _⟩ => show r.val = 128 * (t.val % 8) + (r.val - 128 * (t.val % 8)); omega
    | ⟨1, _⟩ => exact (Nat.zero_add _).symm
  · rw [if_neg hr]
    refine (View.read_writes_cons_unit_of_not_mem v f inb w [] (ix2 r d) e 0 ?_).trans (congrFun hS _)
    show r.val < 128 * (t.val % 8) ∨ 128 * (t.val % 8) + 128 ≤ r.val
    omega

theorem cur_A (c : Dev nD) (t : Fin cfg0.N) (h : t.val = 0) (r : Fin 1024) (d : Fin 2048) :
    (outsAt0 m c t.val t.isLt).2.1 (ix2 r d) = 0 + part (iblk m c 1 t) (iblk m c 2 t) (iblk m c 3 t) r d := by
  rw [outsAt0_A m c t (by omega) ((hcond0_1 t).mp ((even_iff t).mpr (by omega))) (fun h' => absurd ((odd_iff t).mp ((hcond0_2 t).mpr h')) (by omega)) (by omega)]
  frame_out
  exact (pay3_at _ _ _ _ r d).trans (congrArg (· + _) (pay1_at r d))

theorem prev_A (c : Dev nD) (t : Fin cfg0.N) (h : t.val = 0) (r : Fin 1024) (d : Fin 2048) :
    (outsAt0 m c t.val t.isLt).2.2 (ix2 r d) = 0 := by
  rw [outsAt0_A m c t (by omega) ((hcond0_1 t).mp ((even_iff t).mpr (by omega))) (fun h' => absurd ((odd_iff t).mp ((hcond0_2 t).mpr h')) (by omega)) (by omega)]
  frame_out
  exact canon_clr _ _ all6 _

theorem cur_B (c : Dev nD) (t : Fin cfg0.N) (h : t.val ≠ 0) (he : t.val / 8 % 2 = 0) (hl : t.val < 64) (r : Fin 1024) (d : Fin 2048) :
    (outsAt0 m c t.val t.isLt).2.1 (ix2 r d) = (prv m c t).2.1 (ix2 r d) + part (iblk m c 1 t) (iblk m c 2 t) (iblk m c 3 t) r d := by
  rw [outsAt0_B m c t (by have := t_lt t; omega) ((hcond0_1 t).mp ((even_iff t).mpr ⟨he, hl⟩)) (fun h' => absurd ((odd_iff t).mp ((hcond0_2 t).mpr h')) (by omega)) (by omega)]
  frame_out
  exact (pay3_at _ _ _ _ r d).trans (congrArg (· + _) (congrFun ((Memref.isWhole_whole _).read_unread _) _))

theorem prev_B (c : Dev nD) (t : Fin cfg0.N) (h : t.val ≠ 0) (he : t.val / 8 % 2 = 0) (hl : t.val < 64) (r : Fin 1024) (d : Fin 2048) :
    (outsAt0 m c t.val t.isLt).2.2 (ix2 r d) = clr t (prv m c t).2.2 r d := by
  rw [outsAt0_B m c t (by have := t_lt t; omega) ((hcond0_1 t).mp ((even_iff t).mpr ⟨he, hl⟩)) (fun h' => absurd ((odd_iff t).mp ((hcond0_2 t).mpr h')) (by omega)) (by omega)]
  frame_out
  exact read_clr _ _ _ ((Memref.isWhole_whole _).read_unread _) t (offs1 t) _ _ all6 r d

theorem out_B (c : Dev nD) (t : Fin cfg0.N) (h : t.val ≠ 0) (he : t.val / 8 % 2 = 0) (hl : t.val < 64) (r : Fin 128) (d : Fin 2048) :
    (outsAt0 m c t.val t.isLt).1 (ix2 r d) = fin (iblk m c 0 t) (rows t (prv m c t).2.2) (iblk m c 4 t) (iblk m c 5 t) r d := by
  rw [outsAt0_B m c t (by have := t_lt t; omega) ((hcond0_1 t).mp ((even_iff t).mpr ⟨he, hl⟩)) (fun h' => absurd ((odd_iff t).mp ((hcond0_2 t).mpr h')) (by omega)) (by omega)]
  frame_out
  refine (pay5_at _ _ _ _ r d).trans (congrArg (fun A => fin (iblk m c 0 t) A (iblk m c 4 t) (iblk m c 5 t) r d) (funext fun y => ?_))
  refine (congrFun ((Memref.isWhole_whole _).read_unread _) _).trans ?_
  refine congrArg (prv m c t).2.2 ?_
  refine funext fun a => Fin.ext ?_
  refine (idx_off (offs1 t) _ y a).trans ?_
  match a with
  | ⟨0, _⟩ => rfl
  | ⟨1, _⟩ => exact Nat.zero_add _

theorem cur_C (c : Dev nD) (t : Fin cfg0.N) (he : t.val / 8 % 2 = 1) (hl : t.val < 64) (r : Fin 1024) (d : Fin 2048) :
    (outsAt0 m c t.val t.isLt).2.2 (ix2 r d) = (prv m c t).2.2 (ix2 r d) + part (iblk m c 1 t) (iblk m c 2 t) (iblk m c 3 t) r d := by
  rw [outsAt0_C m c t (by have := t_lt t; omega) (fun h' => absurd ((even_iff t).mp ((hcond0_1 t).mpr h')) (by omega)) ((hcond0_2 t).mp ((odd_iff t).mpr ⟨he, hl⟩)) (by omega)]
  frame_out
  exact (pay4_at _ _ _ _ r d).trans (congrArg (· + _) (congrFun ((Memref.isWhole_whole _).read_unread _) _))

theorem prev_C (c : Dev nD) (t : Fin cfg0.N) (he : t.val / 8 % 2 = 1) (hl : t.val < 64) (r : Fin 1024) (d : Fin 2048) :
    (outsAt0 m c t.val t.isLt).2.1 (ix2 r d) = clr t (prv m c t).2.1 r d := by
  rw [outsAt0_C m c t (by have := t_lt t; omega) (fun h' => absurd ((even_iff t).mp ((hcond0_1 t).mpr h')) (by omega)) ((hcond0_2 t).mp ((odd_iff t).mpr ⟨he, hl⟩)) (by omega)]
  frame_out
  exact read_clr _ _ _ ((Memref.isWhole_whole _).read_unread _) t (offs2 t) _ _ all8 r d

theorem out_C (c : Dev nD) (t : Fin cfg0.N) (he : t.val / 8 % 2 = 1) (hl : t.val < 64) (r : Fin 128) (d : Fin 2048) :
    (outsAt0 m c t.val t.isLt).1 (ix2 r d) = fin (iblk m c 0 t) (rows t (prv m c t).2.1) (iblk m c 4 t) (iblk m c 5 t) r d := by
  rw [outsAt0_C m c t (by have := t_lt t; omega) (fun h' => absurd ((even_iff t).mp ((hcond0_1 t).mpr h')) (by omega)) ((hcond0_2 t).mp ((odd_iff t).mpr ⟨he, hl⟩)) (by omega)]
  frame_out
  refine (pay7_at _ _ _ _ r d).trans (congrArg (fun A => fin (iblk m c 0 t) A (iblk m c 4 t) (iblk m c 5 t) r d) (funext fun y => ?_))
  refine (congrFun ((Memref.isWhole_whole _).read_unread _) _).trans ?_
  refine congrArg (prv m c t).2.1 ?_
  refine funext fun a => Fin.ext ?_
  refine (idx_off (offs2 t) _ y a).trans ?_
  match a with
  | ⟨0, _⟩ => rfl
  | ⟨1, _⟩ => exact Nat.zero_add _

theorem prev_D (c : Dev nD) (t : Fin cfg0.N) (hl : 64 ≤ t.val) (r : Fin 1024) (d : Fin 2048) :
    (outsAt0 m c t.val t.isLt).2.2 (ix2 r d) = clr t (prv m c t).2.2 r d := by
  rw [outsAt0_D m c t (by have := t_lt t; omega) (fun h' => absurd ((even_iff t).mp ((hcond0_1 t).mpr h')) (by omega)) (fun h' => absurd ((odd_iff t).mp ((hcond0_2 t).mpr h')) (by omega)) hl]
  frame_out
  exact read_clr _ _ _ ((Memref.isWhole_whole _).read_unread _) t (offs3 t) _ _ all10 r d

theorem out_D (c : Dev nD) (t : Fin cfg0.N) (hl : 64 ≤ t.val) (r : Fin 128) (d : Fin 2048) :
    (outsAt0 m c t.val t.isLt).1 (ix2 r d) = fin (iblk m c 0 t) (rows t (prv m c t).2.2) (iblk m c 4 t) (iblk m c 5 t) r d := by
  rw [outsAt0_D m c t (by have := t_lt t; omega) (fun h' => absurd ((even_iff t).mp ((hcond0_1 t).mpr h')) (by omega)) (fun h' => absurd ((odd_iff t).mp ((hcond0_2 t).mpr h')) (by omega)) hl]
  frame_out
  refine (pay9_at _ _ _ _ r d).trans (congrArg (fun A => fin (iblk m c 0 t) A (iblk m c 4 t) (iblk m c 5 t) r d) (funext fun y => ?_))
  refine (congrFun ((Memref.isWhole_whole _).read_unread _) _).trans ?_
  refine congrArg (prv m c t).2.2 ?_
  refine funext fun a => Fin.ext ?_
  refine (idx_off (offs3 t) _ y a).trans ?_
  match a with
  | ⟨0, _⟩ => rfl
  | ⟨1, _⟩ => exact Nat.zero_add _

end Cert.FfnIdeal.Val
-- ==== Proof.FfnInv.lean ====
module
public import proofs.«01_k».proof.Proof.FfnStep
@[expose] public section
set_option maxRecDepth 16384
noncomputable section
open Idealize.ShloMosaic Idealize.ShloMosaic.TcCoe Idealize.SL.Sem
open Idealize.ShloMosaic.Pipeline (Dat)
/-! What the feed-forward call's two sums hold after every point, and the rows each point finishes. -/
namespace Cert.FfnIdeal.Val
open Cert.FfnIdeal Cert.FfnIdeal.Gen Cert.FfnMath

variable (m : (ℓ : Loc nD τ sig) → Buf (Elt Ideal) ℓ)

/-- What point `n` adds to its tile's sum. -/
def pt (c : Dev nD) (n : ℕ) (r : Fin 1024) (d : Fin 2048) : EReal :=
  if h : n < cfg0.N then part (iblk m c 1 ⟨n, h⟩) (iblk m c 2 ⟨n, h⟩) (iblk m c 3 ⟨n, h⟩) r d else 0

theorem pt_eq (c : Dev nD) (t : Fin cfg0.N) (r : Fin 1024) (d : Fin 2048) :
    pt m c t.val r d = part (iblk m c 1 t) (iblk m c 2 t) (iblk m c 3 t) r d := dif_pos t.isLt

/-- The sum of tile `i` after its first `n` points. -/
def acc (c : Dev nD) (i n : ℕ) (r : Fin 1024) (d : Fin 2048) : EReal := ∑ j ∈ Finset.range n, pt m c (8 * i + j) r d

/-- The other sum after point `n`: the rows finished so far are clear. -/
def left (c : Dev nD) (n : ℕ) (r : Fin 1024) (d : Fin 2048) : EReal :=
  if r.val < 128 * (n % 8 + 1) then 0 else if n / 8 = 0 then 0 else acc m c (n / 8 - 1) 8 r d

theorem cur_step (c : Dev nD) (t : Fin cfg0.N) (r : Fin 1024) (d : Fin 2048) (a : EReal) (ha : a = acc m c (t.val / 8) (t.val % 8) r d) :
    a + part (iblk m c 1 t) (iblk m c 2 t) (iblk m c 3 t) r d = acc m c (t.val / 8) (t.val % 8 + 1) r d := by
  rw [ha, ← pt_eq]
  unfold acc
  rw [Finset.sum_range_succ, show 8 * (t.val / 8) + t.val % 8 = t.val from Nat.div_add_mod _ _]

theorem left_step (c : Dev nD) (t : Fin cfg0.N) (n : ℕ) (hn : t.val = n + 1) (S : Vec Ideal S1024x2048 .f32)
    (hS : ∀ r d, S (ix2 r d) = if t.val % 8 = 0 then acc m c (n / 8) 8 r d else left m c n r d) (r : Fin 1024) (d : Fin 2048) :
    clr t S r d = left m c t.val r d := by
  unfold clr
  rw [hS]
  unfold left
  by_cases h8 : t.val % 8 = 0
  · rw [if_pos h8, h8, if_neg (show ¬ t.val / 8 = 0 by omega), show t.val / 8 - 1 = n / 8 by omega]
    by_cases hr : r.val < 128
    · rw [if_pos (by omega), if_pos (by omega)]
    · rw [if_neg (by omega), if_neg (by omega)]
  · rw [if_neg h8, show n / 8 = t.val / 8 by omega, show n % 8 + 1 = t.val % 8 by omega]
    by_cases h1 : r.val < 128 * (t.val % 8)
    · rw [if_neg (by omega), if_pos h1, if_pos (by omega)]
    · by_cases h2 : r.val < 128 * (t.val % 8 + 1)
      · rw [if_pos (by omega), if_pos h2]
      · rw [if_neg (by omega), if_neg h1, if_neg h2]

theorem left_full (c : Dev nD) (n : ℕ) (h : n % 8 = 7) (r : Fin 1024) (d : Fin 2048) : left m c n r d = 0 :=
  if_pos (by have := r.isLt; omega)

/-- What both sums hold after point `n`. -/
def Inv (c : Dev nD) (n : ℕ) (hn : n < cfg0.N) : Prop :=
  (n / 8 % 2 = 0 → (∀ r d, (outsAt0 m c n hn).2.2 (ix2 r d) = left m c n r d)
      ∧ (n < 64 → ∀ r d, (outsAt0 m c n hn).2.1 (ix2 r d) = acc m c (n / 8) (n % 8 + 1) r d))
  ∧ (n / 8 % 2 = 1 → (∀ r d, (outsAt0 m c n hn).2.1 (ix2 r d) = left m c n r d)
      ∧ ∀ r d, (outsAt0 m c n hn).2.2 (ix2 r d) = acc m c (n / 8) (n % 8 + 1) r d)

/-- The sum a point finishes rows of, as the point before left it. -/
theorem prev_even (c : Dev nD) (t : Fin cfg0.N) (n : ℕ) (hn : t.val = n + 1) (hn' : n < cfg0.N) (ih : Inv m c n hn') (he : t.val / 8 % 2 = 0) (r : Fin 1024) (d : Fin 2048) :
    (outsAt0 m c n hn').2.2 (ix2 r d) = if t.val % 8 = 0 then acc m c (n / 8) 8 r d else left m c n r d := by
  by_cases h8 : t.val % 8 = 0
  · rw [if_pos h8, (ih.2 (by omega)).2 r d, show n % 8 + 1 = 8 by omega]
  · rw [if_neg h8, (ih.1 (by omega)).1 r d]

theorem prev_odd (c : Dev nD) (t : Fin cfg0.N) (n : ℕ) (hn : t.val = n + 1) (hn' : n < cfg0.N) (ih : Inv m c n hn') (he : t.val / 8 % 2 = 1) (r : Fin 1024) (d : Fin 2048) :
    (outsAt0 m c n hn').2.1 (ix2 r d) = if t.val % 8 = 0 then acc m c (n / 8) 8 r d else left m c n r d := by
  have := t_lt t
  by_cases h8 : t.val % 8 = 0
  · rw [if_pos h8, (ih.1 (by omega)).2 (by omega) r d, show n % 8 + 1 = 8 by omega]
  · rw [if_neg h8, (ih.2 (by omega)).1 r d]

theorem prv_eq (c : Dev nD) (t : Fin cfg0.N) (n : ℕ) (hn : t.val = n + 1) (hn' : n < cfg0.N) : prv m c t = outsAt0 m c n hn' := by
  obtain ⟨v, hv⟩ := t
  cases hn
  rfl

theorem inv (c : Dev nD) : ∀ (n : ℕ) (hn : n < cfg0.N), Inv m c n hn := by
  intro n
  induction n with
  | zero =>
    intro hn
    refine ⟨fun _ => ⟨fun r d => ?_, fun _ r d => ?_⟩, fun h => absurd h (by decide)⟩
    · refine (prev_A m c ⟨0, hn⟩ rfl r d).trans ?_
      unfold left
      rw [if_pos (rfl : 0 / 8 = 0), ite_self]
    · exact (cur_A m c ⟨0, hn⟩ rfl r d).trans (cur_step m c ⟨0, hn⟩ r d 0 rfl)
  | succ n ih =>
    intro hn
    have hn' : n < cfg0.N := Nat.lt_of_succ_lt hn
    have ih := ih hn'
    have ep := prv_eq m c ⟨n + 1, hn⟩ n rfl hn'
    have hl := t_lt ⟨n + 1, hn⟩
    have hl' : n + 1 < 72 := hl
    refine ⟨fun he => ⟨fun r d => ?_, fun hlt r d => ?_⟩, fun ho => ⟨fun r d => ?_, fun r d => ?_⟩⟩
    · by_cases h64 : n + 1 < 64
      · refine (prev_B m c ⟨n + 1, hn⟩ (Nat.succ_ne_zero n) he h64 r d).trans ?_
        rw [ep]
        exact left_step m c ⟨n + 1, hn⟩ n rfl _ (prev_even m c ⟨n + 1, hn⟩ n rfl hn' ih he) r d
      · refine (prev_D m c ⟨n + 1, hn⟩ (Nat.le_of_not_lt h64) r d).trans ?_
        rw [ep]
        exact left_step m c ⟨n + 1, hn⟩ n rfl _ (prev_even m c ⟨n + 1, hn⟩ n rfl hn' ih he) r d
    · refine (cur_B m c ⟨n + 1, hn⟩ (Nat.succ_ne_zero n) he hlt r d).trans (cur_step m c ⟨n + 1, hn⟩ r d _ ?_)
      rw [ep]
      show (outsAt0 m c n hn').2.1 (ix2 r d) = acc m c ((n + 1) / 8) ((n + 1) % 8) r d
      by_cases h8 : (n + 1) % 8 = 0
      · rw [(ih.2 (by omega)).1 r d, left_full m c n (by omega), h8]
        rfl
      · rw [(ih.1 (by omega)).2 (by omega) r d, show n / 8 = (n + 1) / 8 by omega, show n % 8 + 1 = (n + 1) % 8 by omega]
    · refine (prev_C m c ⟨n + 1, hn⟩ ho (by have : (n + 1) / 8 % 2 = 1 := ho; show n + 1 < 64; omega) r d).trans ?_
      rw [ep]
      exact left_step m c ⟨n + 1, hn⟩ n rfl _ (prev_odd m c ⟨n + 1, hn⟩ n rfl hn' ih ho) r d
    · refine (cur_C m c ⟨n + 1, hn⟩ ho (by have : (n + 1) / 8 % 2 = 1 := ho; show n + 1 < 64; omega) r d).trans (cur_step m c ⟨n + 1, hn⟩ r d _ ?_)
      rw [ep]
      show (outsAt0 m c n hn').2.2 (ix2 r d) = acc m c ((n + 1) / 8) ((n + 1) % 8) r d
      by_cases h8 : (n + 1) % 8 = 0
      · rw [(ih.1 (by omega)).1 r d, left_full m c n (by omega), h8]
        rfl
      · rw [(ih.2 (by omega)).2 r d, show n / 8 = (n + 1) / 8 by omega, show n % 8 + 1 = (n + 1) % 8 by omega]

/-- The rows a point finishes are the previous tile's whole sum. -/
theorem rows_eq (c : Dev nD) (t : Fin cfg0.N) (n : ℕ) (hn : t.val = n + 1) (h8 : 8 ≤ t.val) (S : Vec Ideal S1024x2048 .f32)
    (hS : ∀ r d, S (ix2 r d) = if t.val % 8 = 0 then acc m c (n / 8) 8 r d else left m c n r d) :
    rows t S = fun y => acc m c (t.val / 8 - 1) 8 ⟨128 * (t.val % 8) + (y 0).val, by have : (y 0).val < 128 := (y 0).isLt; omega⟩ (y 1) := by
  funext y
  refine (hS _ _).trans ?_
  by_cases h : t.val % 8 = 0
  · rw [if_pos h, show n / 8 = t.val / 8 - 1 by omega]
  · rw [if_neg h]
    unfold left
    rw [if_neg (by show ¬ 128 * (t.val % 8) + (y 0).val < 128 * (n % 8 + 1); omega), if_neg (by omega), show n / 8 = t.val / 8 by omega]

theorem out_pt (c : Dev nD) (t : Fin cfg0.N) (h8 : 8 ≤ t.val) (r : Fin 128) (d : Fin 2048) :
    (outsAt0 m c t.val t.isLt).1 (ix2 r d) = fin (iblk m c 0 t)
      (fun y => acc m c (t.val / 8 - 1) 8 ⟨128 * (t.val % 8) + (y 0).val, by have : (y 0).val < 128 := (y 0).isLt; omega⟩ (y 1))
      (iblk m c 4 t) (iblk m c 5 t) r d := by
  have hl := t_lt t
  obtain ⟨n, hn⟩ : ∃ n, t.val = n + 1 := ⟨t.val - 1, by omega⟩
  have hn' : n < cfg0.N := by have := t.isLt; omega
  have ih := inv m c n hn'
  have ep := prv_eq m c t n hn hn'
  by_cases he : t.val / 8 % 2 = 0
  · have hS := rows_eq m c t n hn h8 _ (prev_even m c t n hn hn' ih he)
    by_cases h64 : t.val < 64
    · rw [out_B m c t (by omega) he h64, ep, hS]
    · rw [out_D m c t (by omega), ep, hS]
  · have hS := rows_eq m c t n hn h8 _ (prev_odd m c t n hn hn' ih (by omega))
    rw [out_C m c t (by omega) (by omega), ep, hS]

end Cert.FfnIdeal.Val
-- ==== Proof.FfnRef.lean ====
module
public import proofs.«01_k».proof.Proof.FfnMath
public import proofs.«01_k».proof.Proof.Gen.FfnReferenceIdeal.Run
@[expose] public section
set_option maxRecDepth 16384
noncomputable section
open Idealize.ShloMosaic Idealize.ShloMosaic.TcCoe Idealize.SL.Sem
/-! The feed-forward part of the reference, stage by stage. -/
namespace Cert.FfnReferenceIdeal.Val
open Cert.FfnReferenceIdeal Cert.FfnReferenceIdeal.Gen Idealize.ShloMosaic.StableHlo Cert.FfnMath

variable (x : FVec Ideal S2x4096x2048 .f32) (w1 : FVec Ideal S2048x8192 .f32) (w2 : FVec Ideal S8192x2048 .f32) (g b : FVec Ideal S4x2048 .f32)

def rl : FVec Ideal S2x4096x8192 .f32 :=
  maximumf (Host.dotGeneral dot_S2x4096x2048_S2048x8192_S2x4096x8192_2_0_01_1_n_n none x w1) (broadcastInDim S2x4096x8192 ![] bcast_S_S2x4096x8192 (constant S_ .f32 0x00000000#32))

def pr : FVec Ideal S2x4096x2048 .f32 :=
  addf (mulf (broadcastInDim S2x4096x2048 ![] bcast_S_S2x4096x2048 (constant S_ .f32 0x3FD744FD#32)) x) (Host.dotGeneral dot_S2x4096x8192_S8192x2048_S2x4096x2048_2_0_01_1_n_n none (mulf (rl x w1) (rl x w1)) w2)

def mn (p : FVec Ideal S2x4096x2048 .f32) : FVec Ideal S2x4096x1 .f32 :=
  Host.divf (broadcastInDim S2x4096x1 ![0, 1] bcast_S2x4096_S2x4096x1_0_1 (Host.reduceAdd p (constant S_ .f32 0x00000000#32) reducesTo_S2x4096x2048_S2x4096_d2 h_S_)) (broadcastInDim S2x4096x1 ![] bcast_S_S2x4096x1 (constant S_ .f32 0x45000000#32))

def dv (p : FVec Ideal S2x4096x2048 .f32) : FVec Ideal S2x4096x2048 .f32 :=
  subf p (broadcastInDim S2x4096x2048 ![0, 1, 2] bcast_S2x4096x1_S2x4096x2048_0_1_2 (mn p))

def row (g : FVec Ideal S4x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast _ (extractStridedSlice S1x2048 ![0, 0] g slices_S4x2048_S1x2048_0_0) shapeCasts_S1x2048_S2048))

def out : FVec Ideal S8192x2048 .f32 :=
  shapeCast _ (addf (mulf (mulf (dv (pr x w1 w2)) (broadcastInDim S2x4096x2048 ![0, 1, 2] bcast_S2x4096x1_S2x4096x2048_0_1_2 (Host.rsqrt (addf (mn (mulf (dv (pr x w1 w2)) (dv (pr x w1 w2)))) (broadcastInDim S2x4096x1 ![] bcast_S_S2x4096x1 (constant S_ .f32 0x3727C5AC#32)))))) (row g)) (row b)) shapeCasts_S2x4096x2048_S8192x2048

theorem out_eq (m : (ℓ : Loc nD τ sig) → Buf (Elt Ideal) ℓ) (c : Dev nD) :
    Value.res_main_v35 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem rl_at (a : Fin 2) (s : Fin 4096) (f : Fin 8192) :
    rl x w1 (ix3 a s f) = max (∑ k : Fin 2048, x (ix3 a s k) * w1 (ix2 k f)) 0 := by
  pointwise [rl]

theorem pr_at (a : Fin 2) (s : Fin 4096) (d : Fin 2048) :
    pr x w1 w2 (ix3 a s d) = pre (x (ix3 a s d)) (∑ f : Fin 8192, hid (fun k => x (ix3 a s k)) (fun k => w1 (ix2 k f)) * w2 (ix2 f d)) := by
  pointwise [pr, pre, hid, rl_at]

theorem mn_at (p : FVec Ideal S2x4096x2048 .f32) (a : Fin 2) (s : Fin 4096) (z : Fin 1) :
    mn p (ix3 a s z) = mean fun k => p (ix3 a s k) := by
  pointwise [mn, mean]

theorem dv_at (p : FVec Ideal S2x4096x2048 .f32) (a : Fin 2) (s : Fin 4096) (d : Fin 2048) :
    dv p (ix3 a s d) = p (ix3 a s d) - mean fun k => p (ix3 a s k) := by
  pointwise [dv, mn_at]

theorem row_at (a : Fin 2) (s : Fin 4096) (d : Fin 2048) : row g (ix3 a s d) = g (ix2 0 d) := by
  pointwise [row]

theorem out_at (R : Fin 8192) (d : Fin 2048) :
    out x w1 w2 g b (ix2 R d) = ln (fun k => pr x w1 w2 (ix3 ⟨R.val / 4096, by omega⟩ ⟨R.val % 4096, by omega⟩ k)) (fun k => g (ix2 0 k)) (fun k => b (ix2 0 k)) d := by
  pointwise [out, ln, var, mn_at, dv_at, row_at]

end Cert.FfnReferenceIdeal.Val
-- ==== Proof.FfnFinal.lean ====
module
public import Idealize.ShloMosaic.Lib.Pipeline.ValueKit
public import Idealize.ShloMosaic.Lib.Pointwise
public import proofs.«01_k».proof.Proof.FfnInv
public import proofs.«01_k».proof.Proof.FfnRef
@[expose] public section
set_option maxRecDepth 16384
noncomputable section
open Idealize.ShloMosaic Idealize.ShloMosaic.TcCoe Idealize.SL.Sem
open Idealize.ShloMosaic.Pipeline (Dat)
/-! The feed-forward call's result is the reference's: its blocks as entries of the arguments, its tiles' sums as whole contractions. -/
namespace Cert.FfnIdeal.Val
open Cert.FfnIdeal Cert.FfnIdeal.Gen Cert.FfnMath

variable (m : (ℓ : Loc nD τ sig) → Buf (Elt Ideal) ℓ)

abbrev xin (c : Dev nD) : FVec Ideal S2x4096x2048 .f32 := m ((c.tc : Thread nD τ).loc main_arg0)
abbrev w1in (c : Dev nD) : FVec Ideal S2048x8192 .f32 := m ((c.tc : Thread nD τ).loc main_arg1)
abbrev w2in (c : Dev nD) : FVec Ideal S8192x2048 .f32 := m ((c.tc : Thread nD τ).loc main_arg2)
abbrev gin (c : Dev nD) : FVec Ideal S4x2048 .f32 := m ((c.tc : Thread nD τ).loc main_arg3)
abbrev bin (c : Dev nD) : FVec Ideal S4x2048 .f32 := m ((c.tc : Thread nD τ).loc main_arg4)

/-- Row `R` of the layer's input. -/
abbrev xrow (c : Dev nD) (R : Fin 8192) (k : Fin 2048) : EReal := xin m c (ix3 ⟨R.val / 4096, by omega⟩ ⟨R.val % 4096, by omega⟩ k)

theorem idx0 : ∀ t : Fin cfg0.N, 8 ≤ t.val → win0_0.index t = ![t.val - 8, 0] ∧ win0_6.index t = ![t.val - 8, 0] :=
  (by decide +kernel : ∀ t : Fin grid0.N, 8 ≤ t.val → win0_0.index t = ![t.val - 8, 0] ∧ win0_6.index t = ![t.val - 8, 0])

theorem idx1 : ∀ t : Fin cfg0.N, t.val < 64 → win0_1.index t = ![t.val / 8, 0] ∧ win0_2.index t = ![0, t.val % 8] ∧ win0_3.index t = ![t.val % 8, 0] :=
  (by decide +kernel : ∀ t : Fin grid0.N, t.val < 64 → win0_1.index t = ![t.val / 8, 0] ∧ win0_2.index t = ![0, t.val % 8] ∧ win0_3.index t = ![t.val % 8, 0])

theorem idx4 : ∀ t : Fin cfg0.N, win0_4.index t = ![0, 0, 0] ∧ win0_5.index t = ![0, 0, 0] :=
  (by decide +kernel : ∀ t : Fin grid0.N, win0_4.index t = ![0, 0, 0] ∧ win0_5.index t = ![0, 0, 0])

theorem V_0 (c : Dev nD) (R : Fin 8192) (k : Fin 2048) : (show FVec Ideal S8192x2048 .f32 from V m c main_v0) (ix2 R k) = xrow m c R k := by
  entry_read
  pointwise

theorem V_1 (c : Dev nD) (R : Fin 8192) (k : Fin 2048) : (show FVec Ideal S8192x2048 .bf16 from V m c main_v1) (ix2 R k) = xrow m c R k := by
  entry_read
  pointwise

theorem V_2 (c : Dev nD) (k : Fin 2048) (f : Fin 8192) : (show FVec Ideal S2048x8192 .bf16 from V m c main_v2) (ix2 k f) = w1in m c (ix2 k f) := by
  entry_read
  pointwise

theorem V_3 (c : Dev nD) (f : Fin 8192) (k : Fin 2048) : (show FVec Ideal S8192x2048 .bf16 from V m c main_v3) (ix2 f k) = w2in m c (ix2 f k) := by
  entry_read
  pointwise

theorem V_4 (c : Dev nD) (k : Fin 2048) : (show FVec Ideal S4x1x2048 .f32 from V m c main_v4) (ix3 0 0 k) = gin m c (ix2 0 k) := by
  entry_read
  pointwise

theorem V_5 (c : Dev nD) (k : Fin 2048) : (show FVec Ideal S4x1x2048 .f32 from V m c main_v5) (ix3 0 0 k) = bin m c (ix2 0 k) := by
  entry_read
  pointwise

theorem host_0 (c : Dev nD) : ∃ W : Vec Ideal S8192x2048 .f32, V m c main_v0 = W ∧ ∀ (R : Fin 8192) (k : Fin 2048), W (ix2 R k) = xrow m c R k := by
  obtain ⟨W, hW⟩ : ∃ W : Vec Ideal S8192x2048 .f32, V m c main_v0 = W := ⟨_, rfl⟩
  refine ⟨W, hW, fun R k => ?_⟩
  rw [← V_0 m c R k, ← hW]

theorem host_1 (c : Dev nD) : ∃ W : Vec Ideal S8192x2048 .bf16, V m c main_v1 = W ∧ ∀ (R : Fin 8192) (k : Fin 2048), W (ix2 R k) = xrow m c R k := by
  obtain ⟨W, hW⟩ : ∃ W : Vec Ideal S8192x2048 .bf16, V m c main_v1 = W := ⟨_, rfl⟩
  refine ⟨W, hW, fun R k => ?_⟩
  rw [← V_1 m c R k, ← hW]

theorem host_2 (c : Dev nD) : ∃ W : Vec Ideal S2048x8192 .bf16, V m c main_v2 = W ∧ ∀ (k : Fin 2048) (f : Fin 8192), W (ix2 k f) = w1in m c (ix2 k f) := by
  obtain ⟨W, hW⟩ : ∃ W : Vec Ideal S2048x8192 .bf16, V m c main_v2 = W := ⟨_, rfl⟩
  refine ⟨W, hW, fun k f => ?_⟩
  rw [← V_2 m c k f, ← hW]

theorem host_3 (c : Dev nD) : ∃ W : Vec Ideal S8192x2048 .bf16, V m c main_v3 = W ∧ ∀ (f : Fin 8192) (k : Fin 2048), W (ix2 f k) = w2in m c (ix2 f k) := by
  obtain ⟨W, hW⟩ : ∃ W : Vec Ideal S8192x2048 .bf16, V m c main_v3 = W := ⟨_, rfl⟩
  refine ⟨W, hW, fun f k => ?_⟩
  rw [← V_3 m c f k, ← hW]

theorem host_4 (c : Dev nD) : ∃ W : Vec Ideal S4x1x2048 .f32, V m c main_v4 = W ∧ ∀ (k : Fin 2048), W (ix3 0 0 k) = gin m c (ix2 0 k) := by
  obtain ⟨W, hW⟩ : ∃ W : Vec Ideal S4x1x2048 .f32, V m c main_v4 = W := ⟨_, rfl⟩
  refine ⟨W, hW, fun k => ?_⟩
  rw [← V_4 m c k, ← hW]

theorem host_5 (c : Dev nD) : ∃ W : Vec Ideal S4x1x2048 .f32, V m c main_v5 = W ∧ ∀ (k : Fin 2048), W (ix3 0 0 k) = bin m c (ix2 0 k) := by
  obtain ⟨W, hW⟩ : ∃ W : Vec Ideal S4x1x2048 .f32, V m c main_v5 = W := ⟨_, rfl⟩
  refine ⟨W, hW, fun k => ?_⟩
  rw [← V_5 m c k, ← hW]

theorem read0 (c : Dev nD) (t : Fin cfg0.N) (W : Vec Ideal S8192x2048 .f32) (hW : V m c (Pipeline.arrRef spec0 0) = W) (y : S128x2048.Idx) :
    (show Vec Ideal S128x2048 .f32 from iblk m c 0 t) y = W (((cfg0.win 0).blk t).view.emb y) := by
  unfold iblk
  rw [hW]
  rfl

theorem read1 (c : Dev nD) (t : Fin cfg0.N) (W : Vec Ideal S8192x2048 .bf16) (hW : V m c (Pipeline.arrRef spec0 1) = W) (y : S1024x2048.Idx) :
    (show Vec Ideal S1024x2048 .bf16 from iblk m c 1 t) y = W (((cfg0.win 1).blk t).view.emb y) := by
  unfold iblk
  rw [hW]
  rfl

theorem read2 (c : Dev nD) (t : Fin cfg0.N) (W : Vec Ideal S2048x8192 .bf16) (hW : V m c (Pipeline.arrRef spec0 2) = W) (y : S2048x1024.Idx) :
    (show Vec Ideal S2048x1024 .bf16 from iblk m c 2 t) y = W (((cfg0.win 2).blk t).view.emb y) := by
  unfold iblk
  rw [hW]
  rfl

theorem read3 (c : Dev nD) (t : Fin cfg0.N) (W : Vec Ideal S8192x2048 .bf16) (hW : V m c (Pipeline.arrRef spec0 3) = W) (y : S1024x2048.Idx) :
    (show Vec Ideal S1024x2048 .bf16 from iblk m c 3 t) y = W (((cfg0.win 3).blk t).view.emb y) := by
  unfold iblk
  rw [hW]
  rfl

theorem read4 (c : Dev nD) (t : Fin cfg0.N) (W : Vec Ideal S4x1x2048 .f32) (hW : V m c (Pipeline.arrRef spec0 4) = W) (y : S1x1x2048.Idx) :
    (show Vec Ideal S1x1x2048 .f32 from iblk m c 4 t) y = W (((cfg0.win 4).blk t).view.emb y) := by
  unfold iblk
  rw [hW]
  rfl

theorem read5 (c : Dev nD) (t : Fin cfg0.N) (W : Vec Ideal S4x1x2048 .f32) (hW : V m c (Pipeline.arrRef spec0 5) = W) (y : S1x1x2048.Idx) :
    (show Vec Ideal S1x1x2048 .f32 from iblk m c 5 t) y = W (((cfg0.win 5).blk t).view.emb y) := by
  unfold iblk
  rw [hW]
  rfl

theorem at0 (t : Fin cfg0.N) (h : 8 ≤ t.val) (r : Fin 128) (k : Fin 2048) :
    ((cfg0.win 0).blk t).view.emb (show S128x2048.Idx from ix2 r k) = (show S8192x2048.Idx from ix2 ⟨(t.val - 8) * 128 + r.val, by have := t_lt t; omega⟩ k) := by
  have e := (idx0 t h).1
  blk_ext [e]

theorem at6 (t : Fin cfg0.N) (h : 8 ≤ t.val) (r : Fin 128) (k : Fin 2048) :
    ((cfg0.win 6).blk t).view.emb (show S128x2048.Idx from ix2 r k) = (show S8192x2048.Idx from ix2 ⟨(t.val - 8) * 128 + r.val, by have := t_lt t; omega⟩ k) := by
  have e := (idx0 t h).2
  blk_ext [e]

theorem at1 (t : Fin cfg0.N) (h : t.val < 64) (r : Fin 1024) (k : Fin 2048) :
    ((cfg0.win 1).blk t).view.emb (show S1024x2048.Idx from ix2 r k) = (show S8192x2048.Idx from ix2 ⟨t.val / 8 * 1024 + r.val, by omega⟩ k) := by
  have e := (idx1 t h).1
  blk_ext [e]

theorem at2 (t : Fin cfg0.N) (h : t.val < 64) (k : Fin 2048) (f : Fin 1024) :
    ((cfg0.win 2).blk t).view.emb (show S2048x1024.Idx from ix2 k f) = (show S2048x8192.Idx from ix2 k ⟨t.val % 8 * 1024 + f.val, by omega⟩) := by
  have e := (idx1 t h).2.1
  blk_ext [e]

theorem at3 (t : Fin cfg0.N) (h : t.val < 64) (f : Fin 1024) (k : Fin 2048) :
    ((cfg0.win 3).blk t).view.emb (show S1024x2048.Idx from ix2 f k) = (show S8192x2048.Idx from ix2 ⟨t.val % 8 * 1024 + f.val, by omega⟩ k) := by
  have e := (idx1 t h).2.2
  blk_ext [e]

theorem at4 (t : Fin cfg0.N) (k : Fin 2048) :
    ((cfg0.win 4).blk t).view.emb (show S1x1x2048.Idx from ix3 0 0 k) = (show S4x1x2048.Idx from ix3 0 0 k) := by
  have e := (idx4 t).1
  blk_ext [e]

theorem at5 (t : Fin cfg0.N) (k : Fin 2048) :
    ((cfg0.win 5).blk t).view.emb (show S1x1x2048.Idx from ix3 0 0 k) = (show S4x1x2048.Idx from ix3 0 0 k) := by
  have e := (idx4 t).2
  blk_ext [e]

theorem blk0 (c : Dev nD) (t : Fin cfg0.N) (h : 8 ≤ t.val) (r : Fin 128) (k : Fin 2048) :
    (show Vec Ideal S128x2048 .f32 from iblk m c 0 t) (ix2 r k) = xrow m c ⟨(t.val - 8) * 128 + r.val, by have := t_lt t; omega⟩ k := by
  obtain ⟨W, hW, hx⟩ := host_0 m c
  exact (read0 m c t W hW _).trans ((congrArg W (at0 t h r k)).trans (hx _ k))

theorem blk1 (c : Dev nD) (t : Fin cfg0.N) (h : t.val < 64) (r : Fin 1024) (k : Fin 2048) :
    (show Vec Ideal S1024x2048 .bf16 from iblk m c 1 t) (ix2 r k) = xrow m c ⟨t.val / 8 * 1024 + r.val, by omega⟩ k := by
  obtain ⟨W, hW, hx⟩ := host_1 m c
  exact (read1 m c t W hW _).trans ((congrArg W (at1 t h r k)).trans (hx _ k))

theorem blk2 (c : Dev nD) (t : Fin cfg0.N) (h : t.val < 64) (k : Fin 2048) (f : Fin 1024) :
    (show Vec Ideal S2048x1024 .bf16 from iblk m c 2 t) (ix2 k f) = w1in m c (ix2 k ⟨t.val % 8 * 1024 + f.val, by omega⟩) := by
  obtain ⟨W, hW, hx⟩ := host_2 m c
  exact (read2 m c t W hW _).trans ((congrArg W (at2 t h k f)).trans (hx k _))

theorem blk3 (c : Dev nD) (t : Fin cfg0.N) (h : t.val < 64) (f : Fin 1024) (k : Fin 2048) :
    (show Vec Ideal S1024x2048 .bf16 from iblk m c 3 t) (ix2 f k) = w2in m c (ix2 ⟨t.val % 8 * 1024 + f.val, by omega⟩ k) := by
  obtain ⟨W, hW, hx⟩ := host_3 m c
  exact (read3 m c t W hW _).trans ((congrArg W (at3 t h f k)).trans (hx _ k))

theorem blk4 (c : Dev nD) (t : Fin cfg0.N) (k : Fin 2048) :
    (show Vec Ideal S1x1x2048 .f32 from iblk m c 4 t) (ix3 0 0 k) = gin m c (ix2 0 k) := by
  obtain ⟨W, hW, hx⟩ := host_4 m c
  exact (read4 m c t W hW _).trans ((congrArg W (at4 t k)).trans (hx k))

theorem blk5 (c : Dev nD) (t : Fin cfg0.N) (k : Fin 2048) :
    (show Vec Ideal S1x1x2048 .f32 from iblk m c 5 t) (ix3 0 0 k) = bin m c (ix2 0 k) := by
  obtain ⟨W, hW, hx⟩ := host_5 m c
  exact (read5 m c t W hW _).trans ((congrArg W (at5 t k)).trans (hx k))

/-- One term of the feed-forward part's second product. -/
abbrev term (c : Dev nD) (R : Fin 8192) (d : Fin 2048) (f : Fin 8192) : EReal :=
  hid (xrow m c R) (fun k => w1in m c (ix2 k f)) * w2in m c (ix2 f d)

theorem pt_at (c : Dev nD) (t : Fin cfg0.N) (h : t.val < 64) (r : Fin 1024) (d : Fin 2048) :
    pt m c t.val r d = ∑ k : Fin 1024, term m c ⟨t.val / 8 * 1024 + r.val, by omega⟩ d ⟨t.val % 8 * 1024 + k.val, by omega⟩ := by
  rw [pt_eq]
  unfold part
  refine Finset.sum_congr rfl fun k _ => ?_
  refine congrArg₂ (· * ·) (congrArg₂ hid (funext fun e => ?_) (funext fun e => ?_)) ?_
  · exact blk1 m c t h r e
  · exact blk2 m c t h e k
  · exact blk3 m c t h k d

theorem acc_at (c : Dev nD) (i : ℕ) (hi : i < 8) (r : Fin 1024) (d : Fin 2048) (R : Fin 8192) (hR : R.val = i * 1024 + r.val) :
    acc m c i 8 r d = ∑ f : Fin 8192, term m c R d f := by
  unfold acc
  rw [Finset.sum_range]
  refine Eq.trans (Finset.sum_congr rfl fun j _ => ?_) (Fin.sum_mul_add_congr (S := 8) (n := 1024) (L := 8192)
    (F := fun s k => term m c R d ⟨s.val * 1024 + k.val, by omega⟩) (f := term m c R d) fun s k hl => rfl)
  have hN : cfg0.N = 72 := N_0
  have e := pt_at m c ⟨8 * i + j.val, by omega⟩ (by show 8 * i + j.val < 64; omega) r d
  refine e.trans (Finset.sum_congr rfl fun k _ => ?_)
  refine congrArg₂ (fun R f => term m c R d f) (Fin.ext ?_) (Fin.ext ?_)
  · show (8 * i + j.val) / 8 * 1024 + r.val = R.val
    omega
  · show (8 * i + j.val) % 8 * 1024 + k.val = j.val * 1024 + k.val
    omega

theorem point (c : Dev nD) (t : Fin cfg0.N) (h : 8 ≤ t.val) (r : Fin 128) (d : Fin 2048) :
    (outsAt0 m c t.val t.isLt).1 (ix2 r d)
      = Cert.FfnReferenceIdeal.Val.out (xin m c) (w1in m c) (w2in m c) (gin m c) (bin m c) (ix2 ⟨(t.val - 8) * 128 + r.val, by have := t_lt t; omega⟩ d) := by
  have ht := t_lt t
  rw [out_pt m c t h, Cert.FfnReferenceIdeal.Val.out_at]
  unfold fin
  congr 1
  · funext k
    rw [Cert.FfnReferenceIdeal.Val.pr_at]
    refine congrArg₂ pre (blk0 m c t h r k) ?_
    exact acc_at m c (t.val / 8 - 1) (by omega) _ k _ (by show (t.val - 8) * 128 + r.val = (t.val / 8 - 1) * 1024 + (128 * (t.val % 8) + r.val); omega)
  · funext k
    exact blk4 m c t k
  · funext k
    exact blk5 m c t k

theorem flush_ge : ∀ t : Fin cfg0.N, win0_6.flush t = true → 8 ≤ t.val :=
  (by decide +kernel : ∀ t : Fin grid0.N, win0_6.flush t = true → 8 ≤ t.val)

theorem ix_out (y : S128x2048.Idx) : y = ix2 (y 0) (y 1) := by
  blk_ext

/-- The feed-forward part and its norm are the reference's. -/
theorem arr6 (c : Dev nD) : (dats m 0 c).arrAt 6 cfg0.N
    = Cert.FfnReferenceIdeal.Val.out (xin m c) (w1in m c) (w2in m c) (gin m c) (bin m c) := by
  refine (dats m 0 c).arrAt_eq_of_covers 6 _ (by decide +kernel) fun t hf y => ?_
  have h := flush_ge t hf
  blk_simp
  rw [after0_6]
  obtain ⟨r, l, rfl⟩ : ∃ (r : Fin 128) (l : Fin 2048), y = (show S128x2048.Idx from ix2 r l) := ⟨_, _, ix_out y⟩
  rw [at6 t h]
  exact point m c t h r l

end Cert.FfnIdeal.Val
-- ==== Proof.ProjVal.lean ====
module
public import Idealize.ShloMosaic.Lib.Pipeline.ValueKit
public import Idealize.ShloMosaic.Lib.Pointwise
public import proofs.«01_k».proof.Proof.Gen.ProjIdeal.Value
public import proofs.«01_k».proof.Proof.Gen.ProjReferenceIdeal.Run
@[expose] public section
set_option maxRecDepth 16384
noncomputable section
open Idealize.ShloMosaic Idealize.ShloMosaic.TcCoe Idealize.SL.Sem
open Idealize.ShloMosaic.Pipeline (Dat)
/-! The projection of the layer's input: what one program writes, and that it is the reference's block. -/
namespace Cert.ProjReferenceIdeal.Val
open Cert.ProjReferenceIdeal Cert.ProjReferenceIdeal.Gen Idealize.ShloMosaic.StableHlo

/-- The reference's result. -/
def out (x : FVec Ideal S2x4096x2048 .f32) (w : FVec Ideal S2048x9728 .f32) : FVec Ideal S8192x9216 .bf16 :=
  truncf .bf16 (shapeCast _ (extractStridedSlice S2x4096x9216 ![0, 0, 0] (Host.dotGeneral (F := Ideal) dot_S2x4096x2048_S2048x9728_S2x4096x9728_2_0_01_1_n_n none x w) slices_S2x4096x9728_S2x4096x9216_0_0_0) shapeCasts_S2x4096x9216_S8192x9216) bitsLt_bf16_f32

theorem out_at (x : FVec Ideal S2x4096x2048 .f32) (w : FVec Ideal S2048x9728 .f32) (r : Fin 8192) (l : Fin 9216) :
    out x w (ix2 r l) = ∑ k : Fin 2048, x (ix3 ⟨r.val / 4096, by omega⟩ ⟨r.val % 4096, by omega⟩ k) * w (ix2 k ⟨l.val, by omega⟩) := by
  pointwise [out]

end Cert.ProjReferenceIdeal.Val

namespace Cert.ProjIdeal.Val
open Cert.ProjIdeal Cert.ProjIdeal.Gen

variable (m : (ℓ : Loc nD τ sig) → Buf (Elt Ideal) ℓ)

abbrev xin (c : Dev nD) : FVec Ideal S2x4096x2048 .f32 := m ((c : Thread nD τ).loc main_arg0)
abbrev win (c : Dev nD) : FVec Ideal S2048x9728 .f32 := m ((c : Thread nD τ).loc main_arg1)

theorem idx : ∀ t : Fin cfg0.N, win0_0.index t = ![t.val / 9, 0] ∧ win0_1.index t = ![0, t.val % 9] ∧ win0_2.index t = ![t.val / 9, t.val % 9] :=
  (by decide +kernel : ∀ t : Fin grid0.N, _)

theorem t_lt (t : Fin cfg0.N) : t.val < 72 := lt_of_lt_of_eq t.isLt (show cfg0.N = 72 from N_0)

theorem V_x (c : Dev nD) (r : Fin 8192) (k : Fin 2048) :
    (show FVec Ideal S8192x2048 .f32 from V m c main_v0) (ix2 r k) = xin m c (ix3 ⟨r.val / 4096, by omega⟩ ⟨r.val % 4096, by omega⟩ k) := by
  entry_read
  pointwise

theorem V_w (c : Dev nD) (k : Fin 2048) (l : Fin 9728) :
    (show FVec Ideal S2048x9728 .bf16 from V m c main_v1) (ix2 k l) = win m c (ix2 k l) := by
  entry_read
  pointwise

theorem host_x (c : Dev nD) : ∃ W : Vec Ideal S8192x2048 .f32, V m c main_v0 = W ∧ ∀ (r : Fin 8192) (k : Fin 2048),
    W (ix2 r k) = xin m c (ix3 ⟨r.val / 4096, by omega⟩ ⟨r.val % 4096, by omega⟩ k) := by
  obtain ⟨W, hW⟩ : ∃ W : Vec Ideal S8192x2048 .f32, V m c main_v0 = W := ⟨_, rfl⟩
  refine ⟨W, hW, fun r k => ?_⟩
  rw [← V_x m c r k, ← hW]

theorem host_w (c : Dev nD) : ∃ W : Vec Ideal S2048x9728 .bf16, V m c main_v1 = W ∧ ∀ (k : Fin 2048) (l : Fin 9728),
    W (ix2 k l) = win m c (ix2 k l) := by
  obtain ⟨W, hW⟩ : ∃ W : Vec Ideal S2048x9728 .bf16, V m c main_v1 = W := ⟨_, rfl⟩
  refine ⟨W, hW, fun k l => ?_⟩
  rw [← V_w m c k l, ← hW]

theorem read0 (c : Dev nD) (t : Fin cfg0.N) (W : Vec Ideal S8192x2048 .f32) (hW : V m c (Pipeline.arrRef spec0 0) = W) (y : S1024x2048.Idx) :
    (show Vec Ideal S1024x2048 .f32 from iblk m c 0 t) y = W (((cfg0.win 0).blk t).view.emb y) := by
  unfold iblk
  rw [hW]
  rfl

theorem at0 (t : Fin cfg0.N) (r : Fin 1024) (k : Fin 2048) :
    ((cfg0.win 0).blk t).view.emb (show S1024x2048.Idx from ix2 r k) = (show S8192x2048.Idx from ix2 ⟨t.val / 9 * 1024 + r.val, by have := t_lt t; omega⟩ k) := by
  have e := (idx t).1
  blk_ext [e]

theorem blk0 (c : Dev nD) (t : Fin cfg0.N) (r : Fin 1024) (k : Fin 2048) (R : Fin 8192) (hR : R.val = t.val / 9 * 1024 + r.val) :
    (show Vec Ideal S1024x2048 .f32 from iblk m c 0 t) (ix2 r k) = xin m c (ix3 ⟨R.val / 4096, by omega⟩ ⟨R.val % 4096, by omega⟩ k) := by
  obtain ⟨W, hW, hx⟩ := host_x m c
  have e : R = ⟨t.val / 9 * 1024 + r.val, by have := t_lt t; omega⟩ := Fin.ext hR
  exact (read0 m c t W hW _).trans ((congrArg W ((at0 t r k).trans (congrArg (fun R => ix2 R k) e.symm))).trans (hx R k))

theorem iread1 (c : Dev nD) (t : Fin cfg0.N) (W : Vec Ideal S2048x9728 .bf16) (hW : V m c (Pipeline.arrRef spec0 1) = W) (y) :
    iblk m c 1 t y = W (((cfg0.win 1).blk t).view.emb y) := by
  unfold iblk
  rw [hW]
  rfl

theorem at1 (t : Fin cfg0.N) (k : Fin 2048) (l : Fin 1024) (y) (h0 : (y 0).val = k.val) (h1 : (y 1).val = l.val) :
    ((cfg0.win 1).blk t).view.emb y = (show S2048x9728.Idx from ix2 k ⟨t.val % 9 * 1024 + l.val, by omega⟩) := by
  have e := (idx t).2.1
  blk_ext [e, h0, h1]

theorem blk1 (c : Dev nD) (t : Fin cfg0.N) (k : Fin 2048) (l : Fin 1024) :
    (show Vec Ideal S2048x1024 .bf16 from X0_1 m c t) (ix2 k l) = win m c (ix2 k ⟨t.val % 9 * 1024 + l.val, by omega⟩) := by
  obtain ⟨W, hW, hx⟩ := host_w m c
  unfold X0_1 Pipeline.Window.fill
  refine (dif_pos (moved0_1 t _)).trans ?_
  exact (iread1 m c t W hW _).trans ((congrArg W (at1 t k l _ rfl rfl)).trans (hx _ _))

theorem at2 (t : Fin cfg0.N) (r l : Fin 1024) :
    ((cfg0.win 2).blk t).view.emb (show S1024x1024.Idx from ix2 r l) = (show S8192x9216.Idx from ix2 ⟨t.val / 9 * 1024 + r.val, by have := t_lt t; omega⟩ ⟨t.val % 9 * 1024 + l.val, by omega⟩) := by
  have e := (idx t).2.2
  blk_ext [e]

/-- The rows of a tile with their format changed, as the scratch keeps them. -/
theorem scratch_A (c : Dev nD) (t : Fin cfg0.N) (h : t.val % 9 = 0) :
    (outsAt0 m c t.val t.isLt).2 = k0_pay1 (F := Ideal) (iblk m c 0 t) := by
  rw [outsAt0_A m c t h]
  frame_out

theorem pay1_at (X : Vec Ideal S1024x2048 .f32) (r : Fin 1024) (k : Fin 2048) : k0_pay1 (F := Ideal) X (ix2 r k) = X (ix2 r k) := by
  pointwise [k0_pay1]

theorem scratch_at (c : Dev nD) (r : Fin 1024) (k : Fin 2048) : ∀ (n : ℕ) (hn : n < cfg0.N) (R : Fin 8192), R.val = n / 9 * 1024 + r.val →
    (outsAt0 m c n hn).2 (ix2 r k) = xin m c (ix3 ⟨R.val / 4096, by omega⟩ ⟨R.val % 4096, by omega⟩ k) := by
  intro n
  induction n with
  | zero =>
    intro hn R hR
    rw [scratch_A m c ⟨0, hn⟩ rfl, pay1_at]
    exact blk0 m c ⟨0, hn⟩ r k R hR
  | succ n ih =>
    intro hn R hR
    by_cases h : (n + 1) % 9 = 0
    · rw [scratch_A m c ⟨n + 1, hn⟩ h, pay1_at]
      exact blk0 m c ⟨n + 1, hn⟩ r k R hR
    · rw [outsAt0_B m c ⟨n + 1, hn⟩ h]
      exact ih (Nat.lt_of_succ_lt hn) R (by omega)

theorem out_A (c : Dev nD) (t : Fin cfg0.N) (h : t.val % 9 = 0) :
    (outsAt0 m c t.val t.isLt).1 = k0_pay2 (F := Ideal) (outsAt0 m c t.val t.isLt).2 (X0_1 m c t) := by
  rw [scratch_A m c t h, outsAt0_A m c t h]
  frame_out

theorem out_B (c : Dev nD) (t : Fin cfg0.N) (h : ¬t.val % 9 = 0) :
    (outsAt0 m c t.val t.isLt).1 = k0_pay2 (F := Ideal) (outsAt0 m c t.val t.isLt).2 (X0_1 m c t) := by
  rw [outsAt0_B m c t h]
  frame_out
  exact congrArg (fun S => k0_pay2 (F := Ideal) S (X0_1 m c t)) ((Memref.isWhole_whole cc0_scratch0).read_unread _)

theorem pay2_at (A : Vec Ideal S1024x2048 .bf16) (B : Vec Ideal S2048x1024 .bf16) (r l : Fin 1024) :
    k0_pay2 (F := Ideal) A B (ix2 r l) = ∑ k : Fin 2048, A (ix2 r k) * B (ix2 k l) := by
  pointwise [k0_pay2]

theorem point (c : Dev nD) (t : Fin cfg0.N) (r l : Fin 1024) :
    (outsAt0 m c t.val t.isLt).1 (ix2 r l)
      = Cert.ProjReferenceIdeal.Val.out (xin m c) (win m c) (ix2 ⟨t.val / 9 * 1024 + r.val, by have := t_lt t; omega⟩ ⟨t.val % 9 * 1024 + l.val, by omega⟩) := by
  have e : (outsAt0 m c t.val t.isLt).1 = k0_pay2 (F := Ideal) (outsAt0 m c t.val t.isLt).2 (X0_1 m c t) := by
    by_cases h : t.val % 9 = 0
    · exact out_A m c t h
    · exact out_B m c t h
  rw [e, pay2_at, Cert.ProjReferenceIdeal.Val.out_at]
  refine Finset.sum_congr rfl fun k _ => ?_
  exact congrArg₂ (· * ·) (scratch_at m c r k t.val t.isLt _ rfl) (blk1 m c t k l)

theorem ix_out (y : S1024x1024.Idx) : y = ix2 (y 0) (y 1) := by
  blk_ext

/-- The projection is the reference's. -/
theorem arr2 (c : Dev nD) : (dats m 0 c).arrAt 2 cfg0.N = Cert.ProjReferenceIdeal.Val.out (xin m c) (win m c) := by
  refine (dats m 0 c).arrAt_eq_of_covers 2 _ (by decide +kernel) fun t hf y => ?_
  blk_simp
  rw [after0_2]
  obtain ⟨r, l, rfl⟩ : ∃ (r l : Fin 1024), y = (show S1024x1024.Idx from ix2 r l) := ⟨_, _, ix_out y⟩
  rw [at2]
  exact point m c t r l

end Cert.ProjIdeal.Val
-- ==== Proof.GeluVal.lean ====
module
public import Idealize.ShloMosaic.Lib.Pipeline.ValueKit
public import Idealize.ShloMosaic.Lib.Pointwise
public import proofs.«01_k».proof.Proof.Gen.GeluIdeal.Value
public import proofs.«01_k».proof.Proof.Gen.GeluReferenceIdeal.Run
@[expose] public section
set_option maxRecDepth 16384
noncomputable section
open Idealize.ShloMosaic Idealize.ShloMosaic.TcCoe Idealize.SL.Sem
open Idealize.ShloMosaic.Pipeline (Dat)
/-! The projection to the two halves of the gMLP mixer, through gelu: what one program writes, and that it is the reference's block. -/
namespace Cert.GeluReferenceIdeal.Val
open Cert.GeluReferenceIdeal Cert.GeluReferenceIdeal.Gen Idealize.ShloMosaic.StableHlo

/-- The reference's result. -/
def out (x : FVec Ideal S2x4096x2048 .f32) (w : FVec Ideal S2048x2560 .f32) : FVec Ideal S8192x2048 .bf16 :=
  truncf .bf16 (shapeCast _ (mulf (mulf (broadcastInDim S2x4096x2048 ![] bcast_S_S2x4096x2048 (constant S_ .f32 0x3F000000#32)) (extractStridedSlice S2x4096x2048 ![0, 0, 0] (Host.dotGeneral (F := Ideal) dot_S2x4096x2048_S2048x2560_S2x4096x2560_2_0_01_1_n_n none x w) slices_S2x4096x2560_S2x4096x2048_0_0_0)) (Host.erfc (mulf (Host.negf (extractStridedSlice S2x4096x2048 ![0, 0, 0] (Host.dotGeneral (F := Ideal) dot_S2x4096x2048_S2048x2560_S2x4096x2560_2_0_01_1_n_n none x w) slices_S2x4096x2560_S2x4096x2048_0_0_0)) (broadcastInDim S2x4096x2048 ![] bcast_S_S2x4096x2048 (constant S_ .f32 0x3F3504F3#32))))) shapeCasts_S2x4096x2048_S8192x2048) bitsLt_bf16_f32

/-- The gelu of one number, with the error function. -/
def gel (a : Ideal .f32) : Ideal .f32 :=
  FloatOps.mulf (FloatOps.mulf (FloatOps.ofBits .f32 0x3F000000#32) a) (FloatOps.addf (1 : Ideal .f32) (FloatOps.erf (FloatOps.mulf a (FloatOps.ofBits .f32 0x3F3504F3#32))))

/-- The same with the complementary error function at the negated argument, as the reference has it. -/
theorem gel_erfc (a : Ideal .f32) :
    FloatOps.mulf (FloatOps.mulf (FloatOps.ofBits .f32 0x3F000000#32) a) (FloatOps.hostUnary .erfc (FloatOps.mulf (FloatOps.hostNegf a) (FloatOps.ofBits .f32 0x3F3504F3#32))) = gel a := by
  unfold gel
  simp only [Ideal.mulf_def, Ideal.addf_def, Ideal.erf_def, Ideal.hostUnary_erfc_def, Ideal.hostNegf_def, Ideal.negf_def, neg_mul, Ideal.erfc_neg]

theorem out_at (x : FVec Ideal S2x4096x2048 .f32) (w : FVec Ideal S2048x2560 .f32) (r : Fin 8192) (l : Fin 2048) :
    out x w (ix2 r l) = gel (∑ k : Fin 2048, x (ix3 ⟨r.val / 4096, by omega⟩ ⟨r.val % 4096, by omega⟩ k) * w (ix2 k ⟨l.val, by omega⟩)) := by
  rw [← gel_erfc]
  pointwise [out]

end Cert.GeluReferenceIdeal.Val

namespace Cert.GeluIdeal.Val
open Cert.GeluIdeal Cert.GeluIdeal.Gen

variable (m : (ℓ : Loc nD τ sig) → Buf (Elt Ideal) ℓ)

abbrev xin (c : Dev nD) : FVec Ideal S2x4096x2048 .f32 := m ((c : Thread nD τ).loc main_arg0)
abbrev win (c : Dev nD) : FVec Ideal S2048x2560 .f32 := m ((c : Thread nD τ).loc main_arg1)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem t_lt (t : Fin cfg0.N) : t.val < 16 := lt_of_lt_of_eq t.isLt (show cfg0.N = 16 from N_0)

theorem V_x (c : Dev nD) (r : Fin 8192) (k : Fin 2048) :
    (show FVec Ideal S8192x2048 .f32 from V m c main_v0) (ix2 r k) = xin m c (ix3 ⟨r.val / 4096, by omega⟩ ⟨r.val % 4096, by omega⟩ k) := by
  entry_read
  pointwise

theorem V_w (c : Dev nD) (k : Fin 2048) (l : Fin 2560) :
    (show FVec Ideal S2048x2560 .bf16 from V m c main_v1) (ix2 k l) = win m c (ix2 k l) := by
  entry_read
  pointwise

theorem host_x (c : Dev nD) : ∃ W : Vec Ideal S8192x2048 .f32, V m c main_v0 = W ∧ ∀ (r : Fin 8192) (k : Fin 2048),
    W (ix2 r k) = xin m c (ix3 ⟨r.val / 4096, by omega⟩ ⟨r.val % 4096, by omega⟩ k) := by
  obtain ⟨W, hW⟩ : ∃ W : Vec Ideal S8192x2048 .f32, V m c main_v0 = W := ⟨_, rfl⟩
  refine ⟨W, hW, fun r k => ?_⟩
  rw [← V_x m c r k, ← hW]

theorem host_w (c : Dev nD) : ∃ W : Vec Ideal S2048x2560 .bf16, V m c main_v1 = W ∧ ∀ (k : Fin 2048) (l : Fin 2560),
    W (ix2 k l) = win m c (ix2 k l) := by
  obtain ⟨W, hW⟩ : ∃ W : Vec Ideal S2048x2560 .bf16, V m c main_v1 = W := ⟨_, rfl⟩
  refine ⟨W, hW, fun k l => ?_⟩
  rw [← V_w m c k l, ← hW]

theorem read0 (c : Dev nD) (t : Fin cfg0.N) (W : Vec Ideal S8192x2048 .f32) (hW : V m c (Pipeline.arrRef spec0 0) = W) (y : S1024x2048.Idx) :
    (show Vec Ideal S1024x2048 .f32 from iblk m c 0 t) y = W (((cfg0.win 0).blk t).view.emb y) := by
  unfold iblk
  rw [hW]
  rfl

theorem at0 (t : Fin cfg0.N) (r : Fin 1024) (k : Fin 2048) :
    ((cfg0.win 0).blk t).view.emb (show S1024x2048.Idx from ix2 r k) = (show S8192x2048.Idx from ix2 ⟨t.val / 2 * 1024 + r.val, by have := t_lt t; omega⟩ k) := by
  have e := (idx t).1
  blk_ext [e]

theorem blk0 (c : Dev nD) (t : Fin cfg0.N) (r : Fin 1024) (k : Fin 2048) (R : Fin 8192) (hR : R.val = t.val / 2 * 1024 + r.val) :
    (show Vec Ideal S1024x2048 .f32 from iblk m c 0 t) (ix2 r k) = xin m c (ix3 ⟨R.val / 4096, by omega⟩ ⟨R.val % 4096, by omega⟩ k) := by
  obtain ⟨W, hW, hx⟩ := host_x m c
  have e : R = ⟨t.val / 2 * 1024 + r.val, by have := t_lt t; omega⟩ := Fin.ext hR
  exact (read0 m c t W hW _).trans ((congrArg W ((at0 t r k).trans (congrArg (fun R => ix2 R k) e.symm))).trans (hx R k))

theorem iread1 (c : Dev nD) (t : Fin cfg0.N) (W : Vec Ideal S2048x2560 .bf16) (hW : V m c (Pipeline.arrRef spec0 1) = W) (y) :
    iblk m c 1 t y = W (((cfg0.win 1).blk t).view.emb y) := by
  unfold iblk
  rw [hW]
  rfl

theorem at1 (t : Fin cfg0.N) (k : Fin 2048) (l : Fin 1024) (y) (h0 : (y 0).val = k.val) (h1 : (y 1).val = l.val) :
    ((cfg0.win 1).blk t).view.emb y = (show S2048x2560.Idx from ix2 k ⟨t.val % 2 * 1024 + l.val, by omega⟩) := by
  have e := (idx t).2.1
  blk_ext [e, h0, h1]

theorem blk1 (c : Dev nD) (t : Fin cfg0.N) (k : Fin 2048) (l : Fin 1024) :
    (show Vec Ideal S2048x1024 .bf16 from X0_1 m c t) (ix2 k l) = win m c (ix2 k ⟨t.val % 2 * 1024 + l.val, by omega⟩) := by
  obtain ⟨W, hW, hx⟩ := host_w m c
  unfold X0_1 Pipeline.Window.fill
  refine (dif_pos (moved0_1 t _)).trans ?_
  exact (iread1 m c t W hW _).trans ((congrArg W (at1 t k l _ rfl rfl)).trans (hx _ _))

theorem at2 (t : Fin cfg0.N) (r l : Fin 1024) :
    ((cfg0.win 2).blk t).view.emb (show S1024x1024.Idx from ix2 r l) = (show S8192x2048.Idx from ix2 ⟨t.val / 2 * 1024 + r.val, by have := t_lt t; omega⟩ ⟨t.val % 2 * 1024 + l.val, by omega⟩) := by
  have e := (idx t).2.2
  blk_ext [e]

/-- The rows of a tile with their format changed, as the scratch keeps them. -/
theorem scratch_A (c : Dev nD) (t : Fin cfg0.N) (h : t.val % 2 = 0) :
    (outsAt0 m c t.val t.isLt).2 = k0_pay1 (F := Ideal) (iblk m c 0 t) := by
  rw [outsAt0_A m c t h]
  frame_out

theorem pay1_at (X : Vec Ideal S1024x2048 .f32) (r : Fin 1024) (k : Fin 2048) : k0_pay1 (F := Ideal) X (ix2 r k) = X (ix2 r k) := by
  pointwise [k0_pay1]

theorem scratch_at (c : Dev nD) (r : Fin 1024) (k : Fin 2048) : ∀ (n : ℕ) (hn : n < cfg0.N) (R : Fin 8192), R.val = n / 2 * 1024 + r.val →
    (outsAt0 m c n hn).2 (ix2 r k) = xin m c (ix3 ⟨R.val / 4096, by omega⟩ ⟨R.val % 4096, by omega⟩ k) := by
  intro n
  induction n with
  | zero =>
    intro hn R hR
    rw [scratch_A m c ⟨0, hn⟩ rfl, pay1_at]
    exact blk0 m c ⟨0, hn⟩ r k R hR
  | succ n ih =>
    intro hn R hR
    by_cases h : (n + 1) % 2 = 0
    · rw [scratch_A m c ⟨n + 1, hn⟩ h, pay1_at]
      exact blk0 m c ⟨n + 1, hn⟩ r k R hR
    · rw [outsAt0_B m c ⟨n + 1, hn⟩ h]
      exact ih (Nat.lt_of_succ_lt hn) R (by omega)

theorem out_A (c : Dev nD) (t : Fin cfg0.N) (h : t.val % 2 = 0) :
    (outsAt0 m c t.val t.isLt).1 = k0_pay2 (F := Ideal) (outsAt0 m c t.val t.isLt).2 (X0_1 m c t) := by
  rw [scratch_A m c t h, outsAt0_A m c t h]
  frame_out

theorem out_B (c : Dev nD) (t : Fin cfg0.N) (h : ¬t.val % 2 = 0) :
    (outsAt0 m c t.val t.isLt).1 = k0_pay2 (F := Ideal) (outsAt0 m c t.val t.isLt).2 (X0_1 m c t) := by
  rw [outsAt0_B m c t h]
  frame_out
  exact congrArg (fun S => k0_pay2 (F := Ideal) S (X0_1 m c t)) ((Memref.isWhole_whole cc0_scratch0).read_unread _)

theorem pay2_at (A : Vec Ideal S1024x2048 .bf16) (B : Vec Ideal S2048x1024 .bf16) (r l : Fin 1024) :
    k0_pay2 (F := Ideal) A B (ix2 r l) = Cert.GeluReferenceIdeal.Val.gel (∑ k : Fin 2048, A (ix2 r k) * B (ix2 k l)) := by
  pointwise [k0_pay2, Cert.GeluReferenceIdeal.Val.gel]

theorem point (c : Dev nD) (t : Fin cfg0.N) (r l : Fin 1024) :
    (outsAt0 m c t.val t.isLt).1 (ix2 r l)
      = Cert.GeluReferenceIdeal.Val.out (xin m c) (win m c) (ix2 ⟨t.val / 2 * 1024 + r.val, by have := t_lt t; omega⟩ ⟨t.val % 2 * 1024 + l.val, by omega⟩) := by
  have e : (outsAt0 m c t.val t.isLt).1 = k0_pay2 (F := Ideal) (outsAt0 m c t.val t.isLt).2 (X0_1 m c t) := by
    by_cases h : t.val % 2 = 0
    · exact out_A m c t h
    · exact out_B m c t h
  rw [e, pay2_at, Cert.GeluReferenceIdeal.Val.out_at]
  refine congrArg Cert.GeluReferenceIdeal.Val.gel (Finset.sum_congr rfl fun k _ => ?_)
  exact congrArg₂ (· * ·) (scratch_at m c r k t.val t.isLt _ rfl) (blk1 m c t k l)

theorem ix_out (y : S1024x1024.Idx) : y = ix2 (y 0) (y 1) := by
  blk_ext

/-- The array after the run is the reference's. -/
theorem arr2 (c : Dev nD) : (dats m 0 c).arrAt 2 cfg0.N = Cert.GeluReferenceIdeal.Val.out (xin m c) (win m c) := by
  refine (dats m 0 c).arrAt_eq_of_covers 2 _ (by decide +kernel) fun t hf y => ?_
  blk_simp
  rw [after0_2]
  obtain ⟨r, l, rfl⟩ : ∃ (r l : Fin 1024), y = (show S1024x1024.Idx from ix2 r l) := ⟨_, _, ix_out y⟩
  rw [at2]
  exact point m c t r l

end Cert.GeluIdeal.Val
-- ==== Proof.MemKvVal.lean ====
module
public import Idealize.ShloMosaic.Lib.Pipeline.ValueKit
public import Idealize.ShloMosaic.Lib.Pointwise
public import proofs.«01_k».proof.Proof.Gen.MemKvIdeal.Value
public import proofs.«01_k».proof.Proof.Gen.MemKvReferenceIdeal.Run
@[expose] public section
set_option maxRecDepth 16384
noncomputable section
open Idealize.ShloMosaic Idealize.ShloMosaic.TcCoe Idealize.SL.Sem
open Idealize.ShloMosaic.Pipeline (Dat)
/-! The keys and values of the memory: what one program writes, and that it is the reference's block. -/
namespace Cert.MemKvReferenceIdeal.Val
open Cert.MemKvReferenceIdeal Cert.MemKvReferenceIdeal.Gen Idealize.ShloMosaic.StableHlo

/-- The reference's result. -/
def out (x : FVec Ideal S2x256x2048 .f32) (w : FVec Ideal S4x2048x1024 .f32) : FVec Ideal S4x2x256x1024 .bf16 :=
  truncf .bf16 ((concatenate S4x2x256x1024 0 [⟨S1x2x256x1024, ((broadcastInDim S1x2x256x1024 ![1, 2, 3] bcast_S2x256x1024_S1x2x256x1024_1_2_3 (Host.dotGeneral (F := Ideal) dot_S2x256x2048_S2048x1024_S2x256x1024_2_0_01_1_n_n none x (shapeCast _ (extractStridedSlice S1x2048x1024 ![0, 0, 0] w slices_S4x2048x1024_S1x2048x1024_0_0_0) shapeCasts_S1x2048x1024_S2048x1024))) : (⟨S1x2x256x1024, .f32⟩ : BufTy).Contents (Elt Ideal))⟩, ⟨S1x2x256x1024, ((broadcastInDim S1x2x256x1024 ![1, 2, 3] bcast_S2x256x1024_S1x2x256x1024_1_2_3 (Host.dotGeneral (F := Ideal) dot_S2x256x2048_S2048x1024_S2x256x1024_2_0_01_1_n_n none x (shapeCast _ (extractStridedSlice S1x2048x1024 ![1, 0, 0] w slices_S4x2048x1024_S1x2048x1024_1_0_0) shapeCasts_S1x2048x1024_S2048x1024))) : (⟨S1x2x256x1024, .f32⟩ : BufTy).Contents (Elt Ideal))⟩, ⟨S1x2x256x1024, ((broadcastInDim S1x2x256x1024 ![1, 2, 3] bcast_S2x256x1024_S1x2x256x1024_1_2_3 (Host.dotGeneral (F := Ideal) dot_S2x256x2048_S2048x1024_S2x256x1024_2_0_01_1_n_n none x (shapeCast _ (extractStridedSlice S1x2048x1024 ![2, 0, 0] w slices_S4x2048x1024_S1x2048x1024_2_0_0) shapeCasts_S1x2048x1024_S2048x1024))) : (⟨S1x2x256x1024, .f32⟩ : BufTy).Contents (Elt Ideal))⟩, ⟨S1x2x256x1024, ((broadcastInDim S1x2x256x1024 ![1, 2, 3] bcast_S2x256x1024_S1x2x256x1024_1_2_3 (Host.dotGeneral (F := Ideal) dot_S2x256x2048_S2048x1024_S2x256x1024_2_0_01_1_n_n none x (shapeCast _ (extractStridedSlice S1x2048x1024 ![3, 0, 0] w slices_S4x2048x1024_S1x2048x1024_3_0_0) shapeCasts_S1x2048x1024_S2048x1024))) : (⟨S1x2x256x1024, .f32⟩ : BufTy).Contents (Elt Ideal))⟩] concatenates_S1x2x256x1024_S1x2x256x1024_S1x2x256x1024_S1x2x256x1024_S4x2x256x1024_d0 : (⟨S4x2x256x1024, .f32⟩ : BufTy).Contents (Elt Ideal))) bitsLt_bf16_f32

theorem out_at (x : FVec Ideal S2x256x2048 .f32) (w : FVec Ideal S4x2048x1024 .f32) (i : Fin 4) (b : Fin 2) (r : Fin 256) (l : Fin 1024) :
    out x w (ix4 i b r l) = ∑ k : Fin 2048, x (ix3 b r k) * w (ix3 i k l) := by
  match i with
  | 0 => pointwise [out]
  | 1 => pointwise [out]
  | 2 => pointwise [out]
  | 3 => pointwise [out]

end Cert.MemKvReferenceIdeal.Val

namespace Cert.MemKvIdeal.Val
open Cert.MemKvIdeal Cert.MemKvIdeal.Gen

variable (m : (ℓ : Loc nD τ sig) → Buf (Elt Ideal) ℓ)

abbrev mem (c : Dev nD) : FVec Ideal S2x256x2048 .f32 := m ((c : Thread nD τ).loc main_arg0)
abbrev wkv (c : Dev nD) : FVec Ideal S4x2048x1024 .f32 := m ((c : Thread nD τ).loc main_arg1)

theorem idx : ∀ t : Fin cfg0.N, win0_0.index t = ![t.val % 2, 0, 0] ∧ win0_1.index t = ![t.val / 2, 0, 0] ∧ win0_2.index t = ![t.val / 2, t.val % 2, 0, 0] :=
  (by decide +kernel : ∀ t : Fin grid0.N, _)

theorem t_lt (t : Fin cfg0.N) : t.val < 8 := lt_of_lt_of_eq t.isLt (show cfg0.N = 8 from N_0)

theorem host_x (c : Dev nD) : ∃ W : Vec Ideal S2x256x2048 .f32, V m c main_arg0 = W ∧ W = mem m c := ⟨_, rfl, V_main_arg0 m c⟩

theorem host_w (c : Dev nD) : ∃ W : Vec Ideal S4x2048x1024 .f32, V m c main_arg1 = W ∧ W = wkv m c := ⟨_, rfl, V_main_arg1 m c⟩

theorem read0 (c : Dev nD) (t : Fin cfg0.N) (W : Vec Ideal S2x256x2048 .f32) (hW : V m c (Pipeline.arrRef spec0 0) = W) (y : S1x256x2048.Idx) :
    (show Vec Ideal S1x256x2048 .f32 from iblk m c 0 t) y = W (((cfg0.win 0).blk t).view.emb y) := by
  unfold iblk
  rw [hW]
  rfl

theorem read1 (c : Dev nD) (t : Fin cfg0.N) (W : Vec Ideal S4x2048x1024 .f32) (hW : V m c (Pipeline.arrRef spec0 1) = W) (y : S1x2048x1024.Idx) :
    (show Vec Ideal S1x2048x1024 .f32 from iblk m c 1 t) y = W (((cfg0.win 1).blk t).view.emb y) := by
  unfold iblk
  rw [hW]
  rfl

theorem at0 (t : Fin cfg0.N) (r : Fin 256) (k : Fin 2048) :
    ((cfg0.win 0).blk t).view.emb (show S1x256x2048.Idx from ix3 0 r k) = (show S2x256x2048.Idx from ix3 ⟨t.val % 2, by omega⟩ r k) := by
  have e := (idx t).1
  blk_ext [e]

theorem at1 (t : Fin cfg0.N) (k : Fin 2048) (l : Fin 1024) :
    ((cfg0.win 1).blk t).view.emb (show S1x2048x1024.Idx from ix3 0 k l) = (show S4x2048x1024.Idx from ix3 ⟨t.val / 2, by have := t_lt t; omega⟩ k l) := by
  have e := (idx t).2.1
  blk_ext [e]

theorem at2 (t : Fin cfg0.N) (r : Fin 256) (l : Fin 1024) :
    ((cfg0.win 2).blk t).view.emb (show S1x1x256x1024.Idx from ix4 0 0 r l) = (show S4x2x256x1024.Idx from ix4 ⟨t.val / 2, by have := t_lt t; omega⟩ ⟨t.val % 2, by omega⟩ r l) := by
  have e := (idx t).2.2
  blk_ext [e]

theorem blk0 (c : Dev nD) (t : Fin cfg0.N) (r : Fin 256) (k : Fin 2048) :
    (show Vec Ideal S1x256x2048 .f32 from iblk m c 0 t) (ix3 0 r k) = mem m c (ix3 ⟨t.val % 2, by omega⟩ r k) := by
  obtain ⟨W, hW, hx⟩ := host_x m c
  exact (read0 m c t W hW _).trans ((congrArg W (at0 t r k)).trans (congrFun hx _))

theorem blk1 (c : Dev nD) (t : Fin cfg0.N) (k : Fin 2048) (l : Fin 1024) :
    (show Vec Ideal S1x2048x1024 .f32 from iblk m c 1 t) (ix3 0 k l) = wkv m c (ix3 ⟨t.val / 2, by have := t_lt t; omega⟩ k l) := by
  obtain ⟨W, hW, hx⟩ := host_w m c
  exact (read1 m c t W hW _).trans ((congrArg W (at1 t k l)).trans (congrFun hx _))

theorem pay1_at (A : Vec Ideal S1x256x2048 .f32) (B : Vec Ideal S1x2048x1024 .f32) (r : Fin 256) (l : Fin 1024) :
    k0_pay1 (F := Ideal) A B (ix4 0 0 r l) = ∑ k : Fin 2048, A (ix3 0 r k) * B (ix3 0 k l) := by
  pointwise [k0_pay1]

theorem out_pay (A : Vec Ideal S1x256x2048 .f32) (B : Vec Ideal S1x2048x1024 .f32) : out0_2 (F := Ideal) A B = k0_pay1 (F := Ideal) A B := by
  unfold out0_2
  frame_out

theorem point (c : Dev nD) (t : Fin cfg0.N) (r : Fin 256) (l : Fin 1024) :
    out0_2 (F := Ideal) (iblk m c 0 t) (iblk m c 1 t) (ix4 0 0 r l)
      = Cert.MemKvReferenceIdeal.Val.out (mem m c) (wkv m c) (ix4 ⟨t.val / 2, by have := t_lt t; omega⟩ ⟨t.val % 2, by omega⟩ r l) := by
  rw [out_pay, pay1_at, Cert.MemKvReferenceIdeal.Val.out_at]
  exact Finset.sum_congr rfl fun k _ => congrArg₂ (· * ·) (blk0 m c t r k) (blk1 m c t k l)

theorem ix_out (y : S1x1x256x1024.Idx) : y = ix4 0 0 (y 2) (y 3) := by
  have h0 : (y 0).val = 0 := Nat.lt_one_iff.mp (y 0).isLt
  have h1 : (y 1).val = 0 := Nat.lt_one_iff.mp (y 1).isLt
  blk_ext [h0, h1]

/-- The array after the run is the reference's. -/
theorem arr2 (c : Dev nD) : (dats m 0 c).arrAt 2 cfg0.N = Cert.MemKvReferenceIdeal.Val.out (mem m c) (wkv m c) := by
  refine (dats m 0 c).arrAt_eq_of_covers 2 _ (by decide +kernel) fun t hf y => ?_
  blk_simp
  rw [after0_2]
  obtain ⟨r, l, rfl⟩ : ∃ (r : Fin 256) (l : Fin 1024), y = (show S1x1x256x1024.Idx from ix4 0 0 r l) := ⟨_, _, ix_out y⟩
  rw [at2]
  exact point m c t r l

end Cert.MemKvIdeal.Val
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.AttnFinal
public import proofs.«01_k».proof.Proof.FfnBits
public import proofs.«01_k».proof.Proof.FfnFinal
public import proofs.«01_k».proof.Proof.ProjVal
public import proofs.«01_k».proof.Proof.GeluVal
public import proofs.«01_k».proof.Proof.MemKvVal
public import proofs.«01_k».proof.Proof.Gen.ProjIdeal.Value
public import proofs.«01_k».proof.Proof.Gen.ProjReferenceIdeal.Run
public import proofs.«01_k».proof.Proof.Gen.FfnReferenceIdeal.Run
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.Proj
public import proofs.«01_k».proof.Proof.Gen.Proj.Frame
public import proofs.«01_k».proof.Proof.Gen.ProjIdeal.Frame
public import proofs.«01_k».proof.Proof.Gen.ProjIdeal
public import proofs.«01_k».proof.Proof.Gen.FfnReferenceIdeal
public import proofs.«01_k».proof.Proof.Gen.ProjReferenceIdeal
public import proofs.«01_k».proof.Proof.Gen.Gelu
public import proofs.«01_k».proof.Proof.Gen.Gelu.Frame
public import proofs.«01_k».proof.Proof.Gen.GeluIdeal
public import proofs.«01_k».proof.Proof.Gen.GeluIdeal.Frame
public import proofs.«01_k».proof.Proof.Gen.GeluIdeal.Value
public import proofs.«01_k».proof.Proof.Gen.GeluReferenceIdeal
public import proofs.«01_k».proof.Proof.Gen.GeluReferenceIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_ideal : Cert.quiescent_KernelIdeal := fun m ρ _ => Cert.KernelIdeal.Gen.frame (F := Ideal) m ρ

theorem frame_kernel : Cert.quiescent_Kernel := fun m ρ _ => Cert.Kernel.Gen.frame (F := Bits) m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := by
  pair_intro
  · run_from Cert.KernelIdeal.Gen.run_main m g
  · refine (θ_run _ _ _).mono (fun r hr c => ?_) (Cert.ReferenceIdeal.Value.run m' g')
    obtain ⟨e0, e1, e2⟩ := hr c
    refine ⟨?_, ?_, e2⟩
    · rw [e0, Cert.ReferenceIdeal.Attn.out_eq, hagree c]
      exact (Cert.KernelIdeal.Attn.arr5 m c).symm
    · rw [e1, Cert.ReferenceIdeal.Attn.lse_eq, hagree c]
      exact (Cert.KernelIdeal.Attn.arr6 m c).symm

theorem frame_ffn_ideal : Cert.quiescent_FfnIdeal := fun m ρ _ => Cert.FfnIdeal.Gen.frame (F := Ideal) m ρ

theorem frame_ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem frame_proj : Cert.quiescent_Proj := fun m ρ _ => Cert.Proj.Gen.frame (F := Bits) m ρ

theorem frame_proj_ideal : Cert.quiescent_ProjIdeal := fun m ρ _ => Cert.ProjIdeal.Gen.frame (F := Ideal) m ρ

theorem frame_proj_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem algebraic_ffn : Cert.algebraic_FfnIdeal_FfnReferenceIdeal := by
  pair_intro
  · run_from Cert.FfnIdeal.Gen.run_main m g
  · refine (θ_run _ _ _).mono (fun r hr c => ?_) (Cert.FfnReferenceIdeal.Value.run m' g')
    obtain ⟨e0, e1⟩ := hr c
    obtain ⟨h0, h1, h2, h3, h4⟩ := hagree c
    refine ⟨?_, e1⟩
    rw [e0, Cert.FfnReferenceIdeal.Val.out_eq, h0, h1, h2, h3, h4]
    exact (Cert.FfnIdeal.Val.arr6 m c).symm

theorem algebraic_proj : Cert.algebraic_ProjIdeal_ProjReferenceIdeal := by
  pair_intro
  · run_from Cert.ProjIdeal.Gen.run_main m g
  · refine (θ_run _ _ _).mono (fun r hr c => ?_) (Cert.ProjReferenceIdeal.Value.run m' g')
    obtain ⟨e0, e1⟩ := hr c
    obtain ⟨h0, h1⟩ := hagree c
    refine ⟨?_, e1⟩
    rw [e0, h0, h1]
    exact (Cert.ProjIdeal.Val.arr2 m c).symm

theorem frame_gelu : Cert.quiescent_Gelu := fun m ρ _ => Cert.Gelu.Gen.frame (F := Bits) m ρ

theorem frame_gelu_ideal : Cert.quiescent_GeluIdeal := fun m ρ _ => Cert.GeluIdeal.Gen.frame (F := Ideal) m ρ

theorem frame_gelu_reference : Cert.quiescent_GeluReferenceIdeal := fun m ρ _ =>
  (θ_run Cert.GeluReferenceIdeal.defs _ _).mono (fun r h => ⟨fun c => (h c).2, sem_eq_zero_of_no_sems (by decide) r.2⟩)
    (Cert.GeluReferenceIdeal.Value.run (F := Ideal) m ρ)

theorem algebraic_gelu : Cert.algebraic_GeluIdeal_GeluReferenceIdeal := by
  pair_intro
  · run_from Cert.GeluIdeal.Gen.run_main m g
  · refine (θ_run _ _ _).mono (fun r hr c => ?_) (Cert.GeluReferenceIdeal.Value.run m' g')
    obtain ⟨e0, e1⟩ := hr c
    obtain ⟨h0, h1⟩ := hagree c
    refine ⟨?_, e1⟩
    rw [e0, h0, h1]
    exact (Cert.GeluIdeal.Val.arr2 m c).symm

theorem frame_memkv : Cert.quiescent_MemKv := fun m ρ _ => Cert.MemKv.Gen.frame (F := Bits) m ρ

theorem frame_memkv_ideal : Cert.quiescent_MemKvIdeal := fun m ρ _ => Cert.MemKvIdeal.Gen.frame (F := Ideal) m ρ

theorem frame_memkv_reference : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

theorem algebraic_memkv : Cert.algebraic_MemKvIdeal_MemKvReferenceIdeal := by
  pair_intro
  · run_from Cert.MemKvIdeal.Gen.run_main m g
  · refine (θ_run _ _ _).mono (fun r hr c => ?_) (Cert.MemKvReferenceIdeal.Value.run m' g')
    obtain ⟨e0, e1⟩ := hr c
    obtain ⟨h0, h1⟩ := hagree c
    refine ⟨?_, e1⟩
    rw [e0, h0, h1]
    exact (Cert.MemKvIdeal.Val.arr2 m c).symm

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Proj.Gen.facts, Cert.ProjIdeal.Gen.facts, Cert.ProjReferenceIdeal.Gen.facts,
  Cert.Gelu.Gen.facts, Cert.GeluIdeal.Gen.facts, Cert.GeluReferenceIdeal.Gen.facts,
  Cert.MemKv.Gen.facts, Cert.MemKvIdeal.Gen.facts, Cert.MemKvReferenceIdeal.Gen.facts,
  frame_kernel, frame_ideal, frame_reference, Cert.Ffn.Same.frame, frame_ffn_ideal, frame_ffn_reference,
  frame_proj, frame_proj_ideal, frame_proj_reference,
  frame_gelu, frame_gelu_ideal, frame_gelu_reference,
  frame_memkv, frame_memkv_ideal, frame_memkv_reference,
  trivial, algebraic, trivial, algebraic_ffn, trivial, algebraic_proj,
  trivial, algebraic_gelu, trivial, algebraic_memkv⟩

end Cert.Proof

end
